-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v50) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x4096 : Shape := ⟨3, ![1, 256, 4096]⟩
abbrev S2048x14336 : Shape := ⟨2, ![2048, 14336]⟩
abbrev S32x14336 : Shape := ⟨2, ![32, 14336]⟩
abbrev S256x4096 : Shape := ⟨2, ![256, 4096]⟩
abbrev S256x14336 : Shape := ⟨2, ![256, 14336]⟩
abbrev S256x32 : Shape := ⟨2, ![256, 32]⟩
abbrev S2048x1024 : Shape := ⟨2, ![2048, 1024]⟩
abbrev S32x1024 : Shape := ⟨2, ![32, 1024]⟩
abbrev S256x1024 : Shape := ⟨2, ![256, 1024]⟩
abbrev S512x4096 : Shape := ⟨2, ![512, 4096]⟩
abbrev S128x128 : Shape := ⟨2, ![128, 128]⟩
abbrev S256x128 : Shape := ⟨2, ![256, 128]⟩
abbrev S256 : Shape := ⟨1, ![256]⟩
abbrev S256x1 : Shape := ⟨2, ![256, 1]⟩
abbrev S2048x1x1024 : Shape := ⟨3, ![2048, 1, 1024]⟩
abbrev S2048x2x1024 : Shape := ⟨3, ![2048, 2, 1024]⟩
abbrev S4096x1024 : Shape := ⟨2, ![4096, 1024]⟩
abbrev S32x128x1024 : Shape := ⟨3, ![32, 128, 1024]⟩
abbrev S32x1x1024 : Shape := ⟨3, ![32, 1, 1024]⟩
abbrev S512x1024 : Shape := ⟨2, ![512, 1024]⟩
abbrev S1x256x14336 : Shape := ⟨3, ![1, 256, 14336]⟩
abbrev S1x256x32 : Shape := ⟨3, ![1, 256, 32]⟩

abbrev nBuf : Space → Nat
  | .hbm => 14
  | .vmem => 13
  | .smem => 0
  | _ => 0

abbrev bufTy : (tb : Table) → Fin (tcTables nBuf tb) → BufTy
  | .hbm, ⟨0, _⟩ => ⟨S1x256x4096, .bf16⟩
  | .hbm, ⟨1, _⟩ => ⟨S1x256x4096, .bf16⟩
  | .hbm, ⟨2, _⟩ => ⟨S2048x14336, .i8⟩
  | .hbm, ⟨3, _⟩ => ⟨S32x14336, .f32⟩
  | .hbm, ⟨4, _⟩ => ⟨S256x4096, .bf16⟩
  | .hbm, ⟨5, _⟩ => ⟨S256x4096, .bf16⟩
  | .hbm, ⟨6, _⟩ => ⟨S256x14336, .bf16⟩
  | .hbm, ⟨7, _⟩ => ⟨S256x14336, .bf16⟩
  | .hbm, ⟨8, _⟩ => ⟨S256x4096, .i8⟩
  | .hbm, ⟨9, _⟩ => ⟨S256x32, .f32⟩
  | .hbm, ⟨10, _⟩ => ⟨S1x256x14336, .bf16⟩
  | .hbm, ⟨11, _⟩ => ⟨S1x256x14336, .bf16⟩
  | .hbm, ⟨12, _⟩ => ⟨S1x256x4096, .i8⟩
  | .hbm, ⟨13, _⟩ => ⟨S1x256x32, .f32⟩
  | .local _ .vmem, ⟨0, _⟩ => ⟨S256x4096, .bf16⟩
  | .local _ .vmem, ⟨1, _⟩ => ⟨S256x4096, .bf16⟩
  | .local _ .vmem, ⟨2, _⟩ => ⟨S2048x1024, .i8⟩
  | .local _ .vmem, ⟨3, _⟩ => ⟨S2048x1024, .i8⟩
  | .local _ .vmem, ⟨4, _⟩ => ⟨S32x1024, .f32⟩
  | .local _ .vmem, ⟨5, _⟩ => ⟨S32x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x4096, .i8⟩
  | .local _ .vmem, ⟨11, _⟩ => ⟨S256x32, .f32⟩
  | .local _ .vmem, ⟨12, _⟩ => ⟨S512x4096, .bf16⟩
  | _, _ => ⟨S1x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x4096 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x256x4096 : Shape := ⟨3, ![1, 256, 4096]⟩
abbrev S2048x14336 : Shape := ⟨2, ![2048, 14336]⟩
abbrev S32x14336 : Shape := ⟨2, ![32, 14336]⟩
abbrev S2x2 : Shape := ⟨2, ![2, 2]⟩
abbrev S_ : Shape := ⟨0, ![]⟩
abbrev S2x1x2x1 : Shape := ⟨4, ![2, 1, 2, 1]⟩
abbrev S1x2x1x2 : Shape := ⟨4, ![1, 2, 1, 2]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S1x256x32x128 : Shape := ⟨4, ![1, 256, 32, 128]⟩
abbrev S32x1x14336 : Shape := ⟨3, ![32, 1, 14336]⟩
abbrev S32x64x14336 : Shape := ⟨3, ![32, 64, 14336]⟩
abbrev S1x256x32 : Shape := ⟨3, ![1, 256, 32]⟩
abbrev S1x256x32x1 : Shape := ⟨4, ![1, 256, 32, 1]⟩
abbrev S1x256x32x64x2 : Shape := ⟨5, ![1, 256, 32, 64, 2]⟩
abbrev S1x256x32x1x1 : Shape := ⟨5, ![1, 256, 32, 1, 1]⟩
abbrev S1x256x32x64x1 : Shape := ⟨5, ![1, 256, 32, 64, 1]⟩
abbrev S1x256x32x64 : Shape := ⟨4, ![1, 256, 32, 64]⟩
abbrev S256x2048 : Shape := ⟨2, ![256, 2048]⟩
abbrev S256x2048x2 : Shape := ⟨3, ![256, 2048, 2]⟩
abbrev S256x2048x1 : Shape := ⟨3, ![256, 2048, 1]⟩
abbrev S512x2048 : Shape := ⟨2, ![512, 2048]⟩
abbrev S512x14336 : Shape := ⟨2, ![512, 14336]⟩
abbrev S256x14336 : Shape := ⟨2, ![256, 14336]⟩
abbrev S1x256x14336 : Shape := ⟨3, ![1, 256, 14336]⟩

abbrev nBuf : Space → Nat
  | .hbm => 144
  | .vmem => 0
  | .smem => 0
  | _ => 0

abbrev hbmTy0_0 (i : Nat) : BufTy := match i % 128 with
  | 0 => ⟨S1x256x4096, .bf16⟩
  | 1 => ⟨S1x256x4096, .bf16⟩
  | 2 => ⟨S2048x14336, .i8⟩
  | 3 => ⟨S32x14336, .f32⟩
  | 4 => ⟨S2x2, .i32⟩
  | 5 => ⟨S2x2, .i32⟩
  | 6 => ⟨S2x2, .i32⟩
  | 7 => ⟨S_, .i32⟩
  | 8 => ⟨S2x2, .i32⟩
  | 9 => ⟨S2x2, .i1⟩
  | 10 => ⟨S_, .f32⟩
  | 11 => ⟨S_, .f32⟩
  | 12 => ⟨S2x2, .f32⟩
  | 13 => ⟨S2x2, .f32⟩
  | 14 => ⟨S2x2, .f32⟩
  | 15 => ⟨S2x1x2x1, .f32⟩
  | 16 => ⟨S1x2x1x2, .f32⟩
  | 17 => ⟨S2x2x2x2, .f32⟩
  | 18 => ⟨S2x2x2x2, .f32⟩
  | 19 => ⟨S2x2x2x2, .f32⟩
  | 20 => ⟨S4x4, .f32⟩
  | 21 => ⟨S4x1x4x1, .f32⟩
  | 22 => ⟨S1x2x1x2, .f32⟩
  | 23 => ⟨S4x2x4x2, .f32⟩
  | 24 => ⟨S4x2x4x2, .f32⟩
  | 25 => ⟨S4x2x4x2, .f32⟩
  | 26 => ⟨S8x8, .f32⟩
  | 27 => ⟨S8x1x8x1, .f32⟩
  | 28 => ⟨S1x2x1x2, .f32⟩
  | 29 => ⟨S8x2x8x2, .f32⟩
  | 30 => ⟨S8x2x8x2, .f32⟩
  | 31 => ⟨S8x2x8x2, .f32⟩
  | 32 => ⟨S16x16, .f32⟩
  | 33 => ⟨S16x1x16x1, .f32⟩
  | 34 => ⟨S1x2x1x2, .f32⟩
  | 35 => ⟨S16x2x16x2, .f32⟩
  | 36 => ⟨S16x2x16x2, .f32⟩
  | 37 => ⟨S16x2x16x2, .f32⟩
  | 38 => ⟨S32x32, .f32⟩
  | 39 => ⟨S32x1x32x1, .f32⟩
  | 40 => ⟨S1x2x1x2, .f32⟩
  | 41 => ⟨S32x2x32x2, .f32⟩
  | 42 => ⟨S32x2x32x2, .f32⟩
  | 43 => ⟨S32x2x32x2, .f32⟩
  | 44 => ⟨S64x64, .f32⟩
  | 45 => ⟨S64x1x64x1, .f32⟩
  | 46 => ⟨S1x2x1x2, .f32⟩
  | 47 => ⟨S64x2x64x2, .f32⟩
  | 48 => ⟨S64x2x64x2, .f32⟩
  | 49 => ⟨S64x2x64x2, .f32⟩
  | 50 => ⟨S128x128, .f32⟩
  | 51 => ⟨S_, .f32⟩
  | 52 => ⟨S128x128, .f32⟩
  | 53 => ⟨S128x128, .f32⟩
  | 54 => ⟨S1x256x4096, .f32⟩
  | 55 => ⟨S1x256x32x128, .f32⟩
  | 56 => ⟨S1x256x32x128, .f32⟩
  | 57 => ⟨S1x256x4096, .f32⟩
  | 58 => ⟨S1x256x4096, .f32⟩
  | 59 => ⟨S1x256x32x128, .f32⟩
  | 60 => ⟨S1x256x32x128, .f32⟩
  | 61 => ⟨S1x256x4096, .f32⟩
  | 62 => ⟨S2048x14336, .i32⟩
  | 63 => ⟨S_, .i32⟩
  | 64 => ⟨S2048x14336, .i32⟩
  | 65 => ⟨S2048x14336, .i32⟩
  | 66 => ⟨S_, .i32⟩
  | 67 => ⟨S2048x14336, .i32⟩
  | 68 => ⟨S2048x14336, .i32⟩
  | 69 => ⟨S_, .i32⟩
  | 70 => ⟨S2048x14336, .i32⟩
  | 71 => ⟨S2048x14336, .i32⟩
  | 72 => ⟨S_, .i32⟩
  | 73 => ⟨S2048x14336, .i32⟩
  | 74 => ⟨S2048x14336, .i32⟩
  | 75 => ⟨S32x14336, .bf16⟩
  | 76 => ⟨S32x1x14336, .bf16⟩
  | 77 => ⟨S2048x14336, .bf16⟩
  | 78 => ⟨S32x64x14336, .bf16⟩
  | 79 => ⟨S32x64x14336, .bf16⟩
  | 80 => ⟨S32x64x14336, .bf16⟩
  | 81 => ⟨S2048x14336, .bf16⟩
  | 82 => ⟨S2048x14336, .bf16⟩
  | 83 => ⟨S32x64x14336, .bf16⟩
  | 84 => ⟨S32x64x14336, .bf16⟩
  | 85 => ⟨S32x64x14336, .bf16⟩
  | 86 => ⟨S2048x14336, .bf16⟩
  | 87 => ⟨S1x256x32x128, .f32⟩
  | 88 => ⟨S1x256x32x128, .f32⟩
  | 89 => ⟨S_, .f32⟩
  | 90 => ⟨S1x256x32, .f32⟩
  | 91 => ⟨S_, .f32⟩
  | 92 => ⟨S1x256x32, .f32⟩
  | 93 => ⟨S1x256x32, .i1⟩
  | 94 => ⟨S_, .f32⟩
  | 95 => ⟨S1x256x32, .f32⟩
  | 96 => ⟨S1x256x32, .f32⟩
  | 97 => ⟨S_, .f32⟩
  | 98 => ⟨S1x256x32, .f32⟩
  | 99 => ⟨S1x256x32, .f32⟩
  | 100 => ⟨S1x256x32x1, .f32⟩
  | 101 => ⟨S1x256x32x128, .f32⟩
  | 102 => ⟨S1x256x32x128, .f32⟩
  | 103 => ⟨S1x256x32x128, .f32⟩
  | 104 => ⟨S_, .f32⟩
  | 105 => ⟨S_, .f32⟩
  | 106 => ⟨S_, .f32⟩
  | 107 => ⟨S1x256x32x128, .f32⟩
  | 108 => ⟨S1x256x32x128, .f32⟩
  | 109 => ⟨S_, .f32⟩
  | 110 => ⟨S1x256x32x128, .f32⟩
  | 111 => ⟨S1x256x32x128, .f32⟩
  | 112 => ⟨S1x256x32x128, .i32⟩
  | 113 => ⟨S1x256x32x128, .i8⟩
  | 114 => ⟨S1x256x4096, .i8⟩
  | 115 => ⟨S1x256x4096, .i32⟩
  | 116 => ⟨S1x256x4096, .bf16⟩
  | 117 => ⟨S1x256x32x64x2, .bf16⟩
  | 118 => ⟨S1x256x32, .bf16⟩
  | 119 => ⟨S1x256x32x1x1, .bf16⟩
  | 120 => ⟨S1x256x32x64x2, .bf16⟩
  | 121 => ⟨S1x256x32x64x2, .bf16⟩
  | 122 => ⟨S1x256x32x64x1, .bf16⟩
  | 123 => ⟨S1x256x32x64, .bf16⟩
  | 124 => ⟨S256x2048, .bf16⟩
  | 125 => ⟨S1x256x32x64x1, .bf16⟩
  | 126 => ⟨S1x256x32x64, .bf16⟩
  | 127 => ⟨S256x2048, .bf16⟩
  | _ => ⟨S1x256x4096, .bf16⟩

abbrev hbmTy0_1 (i : Nat) : BufTy := match i % 128 with
  | 0 => ⟨S1x256x4096, .bf16⟩
  | 1 => ⟨S256x2048x2, .bf16⟩
  | 2 => ⟨S256x2048x1, .bf16⟩
  | 3 => ⟨S256x2048, .bf16⟩
  | 4 => ⟨S512x2048, .bf16⟩
  | 5 => ⟨S256x2048x1, .bf16⟩
  | 6 => ⟨S256x2048, .bf16⟩
  | 7 => ⟨S512x2048, .bf16⟩
  | 8 => ⟨S512x14336, .f32⟩
  | 9 => ⟨S512x14336, .f32⟩
  | 10 => ⟨S512x14336, .f32⟩
  | 11 => ⟨S512x14336, .bf16⟩
  | 12 => ⟨S256x14336, .bf16⟩
  | 13 => ⟨S1x256x14336, .bf16⟩
  | 14 => ⟨S256x14336, .bf16⟩
  | 15 => ⟨S1x256x14336, .bf16⟩
  | _ => ⟨S1x256x4096, .bf16⟩

abbrev hbmTy (i : Nat) : BufTy := match i / 128 with
  | 0 => hbmTy0_0 i
  | 1 => hbmTy0_1 i
  | _ => ⟨S1x256x4096, .bf16⟩

abbrev bufTy : (tb : Table) → Fin (tcTables nBuf tb) → BufTy
  | .hbm, ⟨i, _⟩ => hbmTy i
  | _, _ => ⟨S1x256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v6 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v7 : Ref sig .tc := ⟨.hbm, 26, rfl⟩
abbrev main_call3_v0 : Ref sig .tc := ⟨.hbm, 27, rfl⟩
abbrev main_call3_v1 : Ref sig .tc := ⟨.hbm, 28, rfl⟩
abbrev main_call3_v2 : Ref sig .tc := ⟨.hbm, 29, rfl⟩
abbrev main_call3_v3 : Ref sig .tc := ⟨.hbm, 30, rfl⟩
abbrev main_call3_v4 : Ref sig .tc := ⟨.hbm, 31, rfl⟩
abbrev main_v8 : Ref sig .tc := ⟨.hbm, 32, rfl⟩
abbrev main_call4_v0 : Ref sig .tc := ⟨.hbm, 33, rfl⟩
abbrev main_call4_v1 : Ref sig .tc := ⟨.hbm, 34, rfl⟩
abbrev main_call4_v2 : Ref sig .tc := ⟨.hbm, 35, rfl⟩
abbrev main_call4_v3 : Ref sig .tc := ⟨.hbm, 36, rfl⟩
abbrev main_call4_v4 : Ref sig .tc := ⟨.hbm, 37, rfl⟩
abbrev main_v9 : Ref sig .tc := ⟨.hbm, 38, rfl⟩
abbrev main_call5_v0 : Ref sig .tc := ⟨.hbm, 39, rfl⟩
abbrev main_call5_v1 : Ref sig .tc := ⟨.hbm, 40, rfl⟩
abbrev main_call5_v2 : Ref sig .tc := ⟨.hbm, 41, rfl⟩
abbrev main_call5_v3 : Ref sig .tc := ⟨.hbm, 42, rfl⟩
abbrev main_call5_v4 : Ref sig .tc := ⟨.hbm, 43, rfl⟩
abbrev main_v10 : Ref sig .tc := ⟨.hbm, 44, rfl⟩
abbrev main_call6_v0 : Ref sig .tc := ⟨.hbm, 45, rfl⟩
abbrev main_call6_v1 : Ref sig .tc := ⟨.hbm, 46, rfl⟩
abbrev main_call6_v2 : Ref sig .tc := ⟨.hbm, 47, rfl⟩
abbrev main_call6_v3 : Ref sig .tc := ⟨.hbm, 48, rfl⟩
abbrev main_call6_v4 : Ref sig .tc := ⟨.hbm, 49, rfl⟩
abbrev main_v11 : Ref sig .tc := ⟨.hbm, 50, rfl⟩
abbrev main_cst_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_2 : Ref sig .tc := ⟨.hbm, 63, rfl⟩
abbrev main_v23 : Ref sig .tc := ⟨.hbm, 64, rfl⟩
abbrev main_v24 : Ref sig .tc := ⟨.hbm, 65, rfl⟩
abbrev main_c_3 : Ref sig .tc := ⟨.hbm, 66, rfl⟩
abbrev main_v25 : Ref sig .tc := ⟨.hbm, 67, rfl⟩
abbrev main_v26 : Ref sig .tc := ⟨.hbm, 68, rfl⟩
abbrev main_c_4 : Ref sig .tc := ⟨.hbm, 69, rfl⟩
abbrev main_v27 : Ref sig .tc := ⟨.hbm, 70, rfl⟩
abbrev main_v28 : Ref sig .tc := ⟨.hbm, 71, rfl⟩
abbrev main_c_5 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_cst_6 : Ref sig .tc := ⟨.hbm, 89, rfl⟩
abbrev main_v45 : Ref sig .tc := ⟨.hbm, 90, rfl⟩
abbrev main_cst_7 : Ref sig .tc := ⟨.hbm, 91, rfl⟩
abbrev main_v46 : Ref sig .tc := ⟨.hbm, 92, rfl⟩
abbrev main_v47 : Ref sig .tc := ⟨.hbm, 93, rfl⟩
abbrev main_cst_8 : Ref sig .tc := ⟨.hbm, 94, rfl⟩
abbrev main_v48 : Ref sig .tc := ⟨.hbm, 95, rfl⟩
abbrev main_v49 : Ref sig .tc := ⟨.hbm, 96, rfl⟩
abbrev main_cst_9 : Ref sig .tc := ⟨.hbm, 97, rfl⟩
abbrev main_call7_v0 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_cst_10 : Ref sig .tc := ⟨.hbm, 104, rfl⟩
abbrev main_cst_11 : Ref sig .tc := ⟨.hbm, 105, rfl⟩
abbrev main_call9_v0 : Ref sig .tc := ⟨.hbm, 106, rfl⟩
abbrev main_call9_v1 : Ref sig .tc := ⟨.hbm, 107, rfl⟩
abbrev main_call9_v2 : Ref sig .tc := ⟨.hbm, 108, rfl⟩
abbrev main_call9_v3 : Ref sig .tc := ⟨.hbm, 109, rfl⟩
abbrev main_call9_v4 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩

abbrev nD : Nat := 1
abbrev τ : Topo := Topo.v7x

variable {F : FTy → Type} [FloatOps F]
-- ==== Proof.Runs.lean ====
/- What the two runs of the kernel body share: when its conditional is taken, and the buffers it is called on. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)

/-! ## The buffers the body is called on -/

/-- The buffers of the outputs and of the scratch, through which their contents are stated (any whole buffer
    would do: `View.read_writes_of_cover`). -/
abbrev VO0_4 : View sig .tc .vmem S256x1024 .bf16 := (Memref.whole cc0_stg4_0 : Memref sig .tc .vmem S256x1024 .bf16).view
abbrev VO0_5 : View sig .tc .vmem S256x1024 .bf16 := (Memref.whole cc0_stg5_0 : Memref sig .tc .vmem S256x1024 .bf16).view
abbrev VO0_6 : View sig .tc .vmem S256x4096 .i8 := (Memref.whole cc0_stg6_0 : Memref sig .tc .vmem S256x4096 .i8).view
abbrev VO0_7 : View sig .tc .vmem S256x32 .f32 := (Memref.whole cc0_stg7_0 : Memref sig .tc .vmem S256x32 .f32).view

/-- Each window's current staging memref at point `t`, spelled as the pipeline passes it (`bodyAt0`), and its wholeness. -/
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x4096 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x32 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S512x4096 .bf16 := Memref.whole cc0_scratch0
abbrev VS0_0 : View sig .tc .vmem S512x4096 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.RunA.lean ====
/- The kernel body's run at the first grid point, where it prepares both activations. -/
module

public import proofs.«01_k».proof.Proof.Runs

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- THE BODY AT THE FIRST POINT. The pieces its stores leave in each output's buffer and in the scratch (last store
    first), with the proof that the body, run on whole buffers with the inputs at `x0 … x3` and everything else at
    anything, ends with those pieces written and the inputs as they were. -/
noncomputable def kernelRun0_A (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S2048x1024 .i8) (harg3 : arg3.IsWhole) (arg4 : Memref sig .tc .vmem S32x1024 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x4096 .i8) (harg7 : arg7.IsWhole) (arg8 : Memref sig .tc .vmem S256x32 .f32) (harg8 : arg8.IsWhole) (arg9 : Memref sig .tc .vmem S512x4096 .bf16) (harg9 : arg9.IsWhole) (hc0 : cond0_0 i)
    (x0 : Vec F S256x4096 .bf16) (x1 : Vec F S256x4096 .bf16) (x2 : Vec F S2048x1024 .i8) (x3 : Vec F S32x1024 .f32) :
    Σ' (L4 : List (View.Piece (Elt F) S256x1024 .bf16)), Σ' (L5 : List (View.Piece (Elt F) S256x1024 .bf16)), Σ' (L6 : List (View.Piece (Elt F) S256x4096 .i8)), Σ' (L7 : List (View.Piece (Elt F) S256x32 .f32)), { LS0 : List (View.Piece (Elt F) S512x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_qspec_w4_linear i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_qspec_w4_linear_eq_skeleton]; unfold cc0_qspec_w4_linear_skel
    simp only [k0_part38_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    iexists _; iexact HS0

end Cert.KernelIdeal.Hand

end
-- ==== Proof.RunB.lean ====
/- The kernel body's run at a later grid point, where it only multiplies. -/
module

public import proofs.«01_k».proof.Proof.RunA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- THE BODY AT A LATER POINT. The pieces its stores leave in the two matrix outputs' buffers, with the proof that the
    body, run on whole buffers with the inputs at `x0 … x3` and the scratch at `xs0`, ends with those pieces written
    and the inputs and the scratch as they were. It does not touch the other two outputs' buffers. -/
noncomputable def kernelRun0_B (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S2048x1024 .i8) (harg3 : arg3.IsWhole) (arg4 : Memref sig .tc .vmem S32x1024 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x4096 .i8) (harg7 : arg7.IsWhole) (arg8 : Memref sig .tc .vmem S256x32 .f32) (harg8 : arg8.IsWhole) (arg9 : Memref sig .tc .vmem S512x4096 .bf16) (harg9 : arg9.IsWhole) (hc0 : ¬cond0_0 i)
    (x0 : Vec F S256x4096 .bf16) (x1 : Vec F S256x4096 .bf16) (x2 : Vec F S2048x1024 .i8) (x3 : Vec F S32x1024 .f32) (xs0 : Vec F S512x4096 .bf16) :
    Σ' (L4 : List (View.Piece (Elt F) S256x1024 .bf16)), { L5 : List (View.Piece (Elt F) S256x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg9 fullShare xs0) -∗ K ⟨⟩))
          ⊢ wp frame (wpE (defs₀ (F := F)) Variants.none c none) E (cc0_qspec_w4_linear i arg1 harg1 arg2 harg2 arg3 harg3 arg4 harg4 arg5 harg5 arg6 harg6 arg7 harg7 arg8 harg8 arg9 harg9) K } := by
  refine ⟨?_, ?_, fun E K => ?run⟩
  case run =>
    simp only [cc0_qspec_w4_linear_eq_skeleton]; unfold cc0_qspec_w4_linear_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; isplitr; · ipureintro; exact harg9.read_unread _
    iexact HS0

end Cert.KernelIdeal.Hand

end
-- ==== Proof.Frame.lean ====
/- The kernel's frame over named values: what each point leaves in every buffer, the body obligation, and the run. -/
module

public import proofs.«01_k».proof.Proof.RunB
public import Idealize.ShloMosaic.Lib.Claim
public import Idealize.ShloMosaic.Lib.Pipeline.TableIdle

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves at the first point -/

/-- The first point's run, at that point's buffers and blocks. -/
abbrev runA (c : Dev nD) (t : Fin cfg0.N) (h0 : t.val % 14 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t)

/-- At the first step the writes to the draft products' block cover it. -/
theorem cover_outA_4 (c : Dev nD) (t : Fin cfg0.N) (h0 : t.val % 14 = 0) (y : S256x1024.Idx) : ∃ pc ∈ (runA m c t h0).1, y ∈ pc.1.set :=
  View.cover_of_tiledL (runA m c t h0).1 S256x1024.size (by sl_kernel_rfl) y
/-- What the first point leaves in output 4's buffer: its pieces read back. -/
def outA_4 (c : Dev nD) (t : Fin cfg0.N) (h0 : t.val % 14 = 0) : Vec F S256x1024 .bf16 :=
  VO0_4.read (Elt F) (VO0_4.writes (Elt F) VO0_4.junk (runA m c t h0).1)

/-- The same of the verify products' block. -/
theorem cover_outA_5 (c : Dev nD) (t : Fin cfg0.N) (h0 : t.val % 14 = 0) (y : S256x1024.Idx) : ∃ pc ∈ (runA m c t h0).2.1, y ∈ pc.1.set :=
  View.cover_of_tiledL (runA m c t h0).2.1 S256x1024.size (by sl_kernel_rfl) y
/-- What the first point leaves in output 5's buffer: its pieces read back. -/
def outA_5 (c : Dev nD) (t : Fin cfg0.N) (h0 : t.val % 14 = 0) : Vec F S256x1024 .bf16 :=
  VO0_5.read (Elt F) (VO0_5.writes (Elt F) VO0_5.junk (runA m c t h0).2.1)

/-- The same of the codes' block. -/
theorem cover_outA_6 (c : Dev nD) (t : Fin cfg0.N) (h0 : t.val % 14 = 0) (y : S256x4096.Idx) : ∃ pc ∈ (runA m c t h0).2.2.1, y ∈ pc.1.set :=
  View.cover_of_tiledL (runA m c t h0).2.2.1 S256x128.size (by sl_kernel_rfl) y
/-- What the first point leaves in output 6's buffer: its pieces read back. -/
def outA_6 (c : Dev nD) (t : Fin cfg0.N) (h0 : t.val % 14 = 0) : Vec F S256x4096 .i8 :=
  VO0_6.read (Elt F) (VO0_6.writes (Elt F) VO0_6.junk (runA m c t h0).2.2.1)

/-- The same of the scales' block. -/
theorem cover_outA_7 (c : Dev nD) (t : Fin cfg0.N) (h0 : t.val % 14 = 0) (y : S256x32.Idx) : ∃ pc ∈ (runA m c t h0).2.2.2.1, y ∈ pc.1.set :=
  View.cover_of_tiledL (runA m c t h0).2.2.2.1 S256x32.size (by sl_kernel_rfl) y
/-- What the first point leaves in output 7's buffer: its pieces read back. -/
def outA_7 (c : Dev nD) (t : Fin cfg0.N) (h0 : t.val % 14 = 0) : Vec F S256x32 .f32 :=
  VO0_7.read (Elt F) (VO0_7.writes (Elt F) VO0_7.junk (runA m c t h0).2.2.2.1)

/-- The same of the scratch. -/
theorem cover_soutA (c : Dev nD) (t : Fin cfg0.N) (h0 : t.val % 14 = 0) (y : S512x4096.Idx) : ∃ pc ∈ (runA m c t h0).2.2.2.2.1, y ∈ pc.1.set :=
  View.cover_of_tiledL (runA m c t h0).2.2.2.2.1 S256x128.size (by sl_kernel_rfl) y
/-- What the first point leaves in the scratch: its pieces read back. -/
def soutA (c : Dev nD) (t : Fin cfg0.N) (h0 : t.val % 14 = 0) : Vec F S512x4096 .bf16 :=
  VS0_0.read (Elt F) (VS0_0.writes (Elt F) VS0_0.junk (runA m c t h0).2.2.2.2.1)

/-- The first grid point. -/
abbrev t₀ : Fin cfg0.N := ⟨0, by rw [show cfg0.N = 14 from N_0]; decide⟩
/-- What the scratch, the codes' buffer and the scales' buffer hold after every point: the first point's. -/
def prep (c : Dev nD) : Vec F S512x4096 .bf16 := soutA m c t₀ rfl
def prepCodes (c : Dev nD) : Vec F S256x4096 .i8 := outA_6 m c t₀ rfl
/-- The scales that the first step writes. -/
def prepScale (c : Dev nD) : Vec F S256x32 .f32 := outA_7 m c t₀ rfl

/-! ## What the body leaves at a later point -/

/-- A later point's run, at that point's buffers and blocks. -/
abbrev runB (c : Dev nD) (t : Fin cfg0.N) (h0 : ¬t.val % 14 = 0) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (prep m c)

/-- At a later step the writes to the draft products' block cover it. -/
theorem cover_outB_4 (c : Dev nD) (t : Fin cfg0.N) (h0 : ¬t.val % 14 = 0) (y : S256x1024.Idx) : ∃ pc ∈ (runB m c t h0).1, y ∈ pc.1.set :=
  View.cover_of_tiledL (runB m c t h0).1 S256x1024.size (by sl_kernel_rfl) y
/-- What a later point leaves in output 4's buffer. -/
def outB_4 (c : Dev nD) (t : Fin cfg0.N) (h0 : ¬t.val % 14 = 0) : Vec F S256x1024 .bf16 :=
  VO0_4.read (Elt F) (VO0_4.writes (Elt F) VO0_4.junk (runB m c t h0).1)
/-- What any point leaves in output 4's buffer. -/
def outAt_4 (c : Dev nD) (t : Fin cfg0.N) : Vec F S256x1024 .bf16 :=
  if h0 : t.val % 14 = 0 then outA_4 m c t h0 else outB_4 m c t h0

/-- The same of the verify products' block. -/
theorem cover_outB_5 (c : Dev nD) (t : Fin cfg0.N) (h0 : ¬t.val % 14 = 0) (y : S256x1024.Idx) : ∃ pc ∈ (runB m c t h0).2.1, y ∈ pc.1.set :=
  View.cover_of_tiledL (runB m c t h0).2.1 S256x1024.size (by sl_kernel_rfl) y
/-- What a later point leaves in output 5's buffer. -/
def outB_5 (c : Dev nD) (t : Fin cfg0.N) (h0 : ¬t.val % 14 = 0) : Vec F S256x1024 .bf16 :=
  VO0_5.read (Elt F) (VO0_5.writes (Elt F) VO0_5.junk (runB m c t h0).2.1)
/-- What any point leaves in output 5's buffer. -/
def outAt_5 (c : Dev nD) (t : Fin cfg0.N) : Vec F S256x1024 .bf16 :=
  if h0 : t.val % 14 = 0 then outA_5 m c t h0 else outB_5 m c t h0

/-! ## The pipeline's proof data -/

/-- Before the first point the scratch holds anything; afterwards what the first point left. -/
def PhiS (c : Dev nD) : (n : ℕ) → sProp 𝕄
  | 0 => Pipeline.ΦA spec0 c
  | _ + 1 => iprop(iprop(owns (c : Thread nD τ) scM0_0 fullShare (prep m c)) ∗ (∃ r, prngReg c r))

/-- After the first step the scratch holds the prepared activations. -/
theorem PhiS_pos (c : Dev nD) (n : ℕ) (hz : n ≠ 0) :
    PhiS m c n = iprop(iprop(owns (c : Thread nD τ) scM0_0 fullShare (prep m c)) ∗ (∃ r, prngReg c r)) := by
  cases n with
  | zero => exact absurd rfl hz
  | succ n => rfl

/-- The proof data on core `c`: the arrays as the region finds them; after a point each input's buffer at its block,
    the matrix outputs' at that point's tile, the codes' and scales' at the first point's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt_4 m c t
    | ⟨5, _⟩ => outAt_5 m c t
    | ⟨6, _⟩ => prepCodes m c
    | ⟨7, _⟩ => prepScale m c
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt_4 m c t := by dsimp only [dats]
theorem after0_5 (c : Dev nD) (t : Fin cfg0.N) : (dats m 0 c).after 5 t = outAt_5 m c t := by dsimp only [dats]
theorem after0_6 (c : Dev nD) (t : Fin cfg0.N) : (dats m 0 c).after 6 t = prepCodes m c := by dsimp only [dats]
theorem after0_7 (c : Dev nD) (t : Fin cfg0.N) : (dats m 0 c).after 7 t = prepScale m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ### The codes' and scales' buffers between points -/

/-- The buffers of the codes and the scales are stored into at the first point. -/
theorem stored_first (t : Fin cfg0.N) (h0 : t.val % 14 = 0) : (!(k0_cond1 (grid0.coords t) == 1#1)) = false := by
  rw [show k0_cond1 (grid0.coords t) = 1#1 from (hcond0_0 t).mpr h0]; rfl

/-- Buffer 6 holds something the body stored from the first point on: it is written back at the last point only. -/
theorem notFresh_6 : ∀ n, n ≠ 0 → n < 14 → cfg0.fresh 6 n = false
  | 0, h, _ => absurd rfl h
  | n + 1, _, hn => by
    have hN : n < cfg0.N := by rw [show cfg0.N = 14 from N_0]; omega
    rw [Cfg.fresh_succ _ _ n hN, show (cfg0.win 6).flush ⟨n, hN⟩ = false from
      Bool.eq_false_iff.mpr fun h => by have := (flush0_6 _).mp h; dsimp only at this; omega, Bool.false_or]
    rcases Nat.eq_zero_or_pos n with rfl | hp
    · rw [show cfg0.idle 6 (cfg0.grid.coords ⟨0, hN⟩) = false from stored_first ⟨0, hN⟩ rfl, Bool.false_and]
    · rw [notFresh_6 n (by omega) (by omega), Bool.and_false]

/-- At a later step the codes' block still holds the codes. -/
theorem before0_6 (c : Dev nD) (t : Fin cfg0.N) (hz : t.val ≠ 0) (d) : (dats m 0 c).before 6 t d = prepCodes m c := by
  have hN : t.val < 14 := lt_of_lt_of_eq t.isLt (show cfg0.N = 14 from N_0)
  rw [Dat.before_out_traj _ 6 rfl (fun _ _ => rfl) (fun t _ _ _ => by rw [after0_6, after0_6]) t.val t rfl d,
    if_neg (by rw [notFresh_6 t.val hz hN]; exact Bool.false_ne_true)]
  exact after0_6 m c _

/-- So at any point the body may leave buffer 6 at the first point's contents. -/
theorem leaves_6 (c : Dev nD) (t : Fin cfg0.N) :
    (owns (c : Thread nD τ) (ms0_6 t) fullShare (prepCodes m c) : sProp 𝕄) ⊢ (dats m 0 c).leavesExact 6 t := by
  unfold Dat.leavesExact
  cases hi : cfg0.idle 6 (cfg0.grid.coords t) with
  | false => dsimp only; rw [after0_6]
  | true =>
    cases hf : (cfg0.win 6).flush t with
    | true => dsimp only; rw [after0_6]
    | false =>
      dsimp only
      have hz : t.val ≠ 0 := fun h => by
        have := stored_first t (by rw [h])
        rw [show cfg0.idle 6 (cfg0.grid.coords t) = (!(k0_cond1 (grid0.coords t) == 1#1)) from rfl, this] at hi
        exact Bool.false_ne_true hi
      iintro H
      iexists (prepCodes m c)
      rw [before0_6 m c t hz]
      iexact H

/-- Buffer 7 holds something the body stored from the first point on: it is written back at the last point only. -/
theorem notFresh_7 : ∀ n, n ≠ 0 → n < 14 → cfg0.fresh 7 n = false
  | 0, h, _ => absurd rfl h
  | n + 1, _, hn => by
    have hN : n < cfg0.N := by rw [show cfg0.N = 14 from N_0]; omega
    rw [Cfg.fresh_succ _ _ n hN, show (cfg0.win 7).flush ⟨n, hN⟩ = false from
      Bool.eq_false_iff.mpr fun h => by have := (flush0_7 _).mp h; dsimp only at this; omega, Bool.false_or]
    rcases Nat.eq_zero_or_pos n with rfl | hp
    · rw [show cfg0.idle 7 (cfg0.grid.coords ⟨0, hN⟩) = false from stored_first ⟨0, hN⟩ rfl, Bool.false_and]
    · rw [notFresh_7 n (by omega) (by omega), Bool.and_false]

/-- At a later step the scales' block still holds the scales. -/
theorem before0_7 (c : Dev nD) (t : Fin cfg0.N) (hz : t.val ≠ 0) (d) : (dats m 0 c).before 7 t d = prepScale m c := by
  have hN : t.val < 14 := lt_of_lt_of_eq t.isLt (show cfg0.N = 14 from N_0)
  rw [Dat.before_out_traj _ 7 rfl (fun _ _ => rfl) (fun t _ _ _ => by rw [after0_7, after0_7]) t.val t rfl d,
    if_neg (by rw [notFresh_7 t.val hz hN]; exact Bool.false_ne_true)]
  exact after0_7 m c _

/-- So at any point the body may leave buffer 7 at the first point's contents. -/
theorem leaves_7 (c : Dev nD) (t : Fin cfg0.N) :
    (owns (c : Thread nD τ) (ms0_7 t) fullShare (prepScale m c) : sProp 𝕄) ⊢ (dats m 0 c).leavesExact 7 t := by
  unfold Dat.leavesExact
  cases hi : cfg0.idle 7 (cfg0.grid.coords t) with
  | false => dsimp only; rw [after0_7]
  | true =>
    cases hf : (cfg0.win 7).flush t with
    | true => dsimp only; rw [after0_7]
    | false =>
      dsimp only
      have hz : t.val ≠ 0 := fun h => by
        have := stored_first t (by rw [h])
        rw [show cfg0.idle 7 (cfg0.grid.coords t) = (!(k0_cond1 (grid0.coords t) == 1#1)) from rfl, this] at hi
        exact Bool.false_ne_true hi
      iintro H
      iexists (prepScale m c)
      rw [before0_7 m c t hz]
      iexact H

/-! ## The body obligation, at a generic point -/

/-- What the body of step `t` starts from. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the body of step `t` leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (dats m 0 c).leavesExact 6 t
    ∗ (dats m 0 c).leavesExact 7 t)

set_option maxHeartbeats 3200000 in
/-- The body at any point: the first point's run or a later point's applies, and what it leaves is the proof data's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5]
  rw [show (dats m 0 c).Φ t.succ = PhiS m c (t.val + 1) from rfl, PhiS_pos m c (t.val + 1) (by omega), Phi_castSucc m c t]
  have hN : t.val < 14 := lt_of_lt_of_eq t.isLt (show cfg0.N = 14 from N_0)
  by_cases h0 : t.val % 14 = 0
  · have hz : t.val = 0 := by omega
    have ht : t = t₀ := Fin.ext hz
    rw [show outAt_4 m c t = outA_4 m c t h0 from dif_pos h0, show outAt_5 m c t = outA_5 m c t h0 from dif_pos h0]
    subst ht
    rw [show PhiS m c (t₀.val) = Pipeline.ΦA spec0 c from rfl, PhiA0_eq]
    unfold prep outA_4 outA_5 soutA
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA m c t₀ h0).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    iintro ⟨H0, H1, H2, H3, ⟨%e4, H4⟩, ⟨%e5, H5⟩, ⟨%e6, H6⟩, ⟨%e7, H7⟩, ⟨%es0, HS0⟩⟩
    isplitl [HS0 Hg]
    · isplitl [HS0]
      · unfold owns; iexists _; isplitr
        swap; · iexact HS0
        ipureintro; exact View.read_writes_of_cover _ _ _ _ _ (cover_soutA m c t₀ h0)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover_outA_4 m c t₀ h0)
    isplitl [H5]
    · unfold owns; iexists _; isplitr
      swap; · iexact H5
      ipureintro; exact View.read_writes_of_cover _ _ _ _ _ (cover_outA_5 m c t₀ h0)
    isplitl [H6]
    · iapply (leaves_6 m c t₀)
      unfold prepCodes outA_6
      unfold owns; iexists _; isplitr
      swap; · iexact H6
      ipureintro; exact View.read_writes_of_cover _ _ _ _ _ (cover_outA_6 m c t₀ h0)
    iapply (leaves_7 m c t₀)
    unfold prepScale outA_7
    unfold owns; iexists _; isplitr
    swap; · iexact H7
    ipureintro; exact View.read_writes_of_cover _ _ _ _ _ (cover_outA_7 m c t₀ h0)
  · have hz : t.val ≠ 0 := fun h => h0 (by rw [h])
    rw [show outAt_4 m c t = outB_4 m c t h0 from dif_neg h0, show outAt_5 m c t = outB_5 m c t h0 from dif_neg h0,
      PhiS_pos m c _ hz]
    simp only [before0_6 m c t hz, before0_7 m c t hz]
    unfold outB_4 outB_5
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB m c t h0).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, ⟨%e4, H4⟩, ⟨%e5, H5⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover_outB_4 m c t h0)
    isplitl [H5]
    · unfold owns; iexists _; isplitr
      swap; · iexact H5
      ipureintro; exact View.read_writes_of_cover _ _ _ _ _ (cover_outB_5 m c t h0)
    isplitl [H6]
    · iapply (leaves_6 m c t); iexact H6
    iapply (leaves_7 m c t); iexact H7

theorem defs₀_row (t : Fin cfg0.N) :
    defs₀ (F := F) .tc cfg0.body (cfg0.bodyArgs t (cfg0.slots t)) = bodyAt0 t := by
  unfold defs₀; rw [Defs.onTc_tc]

/-- Every step of the body takes its start to its end. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 14 := N_0; omega), PhiA0_eq]
  iintro ⟨HS0, Hg⟩
  isplitl [HS0]
  · iexists _; iexact HS0
  iexact Hg

/-! ## The run and the frame -/

set_option backward.isDefEq.respectTransparency.types false in
/-- Every execution ends with every array of the pipeline at what the proof data computes, the host lines after the
    region applied to that, and every semaphore at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The whole program runs: the kernel leaves the arrays that its blocks make, and the lines after it their reshapes. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- THE FRAME: the arguments end as they began, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Ref.lean ====
/- The reference's results, read element by element. -/
module

public import proofs.«01_k».proof.Proof.Gen.ReferenceIdeal.Read

@[expose] public section

end
-- ==== Proof.Pieces.lean ====
/- The values the first grid point leaves, as families over the 32 groups. -/
module

public import proofs.«01_k».proof.Proof.Frame
public import Idealize.ShloMosaic.Lib.Pipeline.ValueKit.Tiles

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.Sem

variable {F : FTy → Type} [FloatOps F]

variable (m : (ℓ : Loc nD τ sig) → Buf (Elt F) ℓ)

/-! ## The first point's values as families over the groups -/

/-- The signed matrix both activations are multiplied by. -/
def had : FVec F S128x128 .bf16 :=
  k0_pay11 (iota .tc S128x128 32 [1] iota_S128x128_d1_w32) k0_pay8 k0_pay9 128#32 k0_pay10 0#32

/-- The columns of group `g` (read modulo the 32 groups) lie in a 4096-column block. -/
theorem inbG (g : ℕ) : ∀ a, (![0, 128 * (g % 32)] : Fin 2 → ℕ) a + S256x128.size a ≤ S256x4096.size a := by
  intro a
  have := Nat.mod_lt g (by decide : 0 < 32)
  fin_cases a
  · show 0 + 256 ≤ 256; omega
  · show 128 * (g % 32) + 128 ≤ 4096; omega

/-- The columns of group `g`. -/
abbrev rectG (g : ℕ) : Rect S256x4096 := Rect.unit ![0, 128 * (g % 32)] S256x128.size (inbG g)

/-- Group `g` of an activation block, as the body reads it. -/
abbrev grp {M : Memref sig .tc .vmem S256x4096 .bf16} (hM : M.IsWhole) (x : Vec F S256x4096 .bf16) (g : ℕ) : Vec F S256x128 .bf16 :=
  View.readAt (Elt F) M.view (rectG g).toLoadRect (hM.unread x)

/-- Group `g` rotated, in f32. -/
abbrev rotG {M : Memref sig .tc .vmem S256x4096 .bf16} (hM : M.IsWhole) (x : Vec F S256x4096 .bf16) (g : ℕ) : FVec F S256x128 .f32 :=
  k0_pay21 had (grp hM x g)

/-- The codes' pieces: one per group, the last group's first. -/
theorem pieces_6 (c : Dev nD) (t : Fin cfg0.N) (h0 : t.val % 14 = 0) :
    (runA m c t h0).2.2.1 = List.ofFn fun k : Fin 32 =>
      (⟨rectG (31 - k.val), k0_pay17 (rotG (hs0_0 t) (iblk m c 0 t) (31 - k.val))⟩ : View.Piece (Elt F) S256x4096 .i8) := by
  sl_kernel_rfl

/-- The scales of the first `n` groups, set one lane after another. -/
def scalesUpTo {M : Memref sig .tc .vmem S256x4096 .bf16} (hM : M.IsWhole) (x : Vec F S256x4096 .bf16) : ℕ → FVec F S256x32 .f32
  | 0 => k0_pay12
  | n + 1 => select (cmpi .eq (iota .tc S256x32 32 [1] iota_S256x32_d1_w32) (broadcast S256x32 (BitVec.ofNat 32 n)))
      (broadcastTo S256x32 (shapeCast S256x1 (k0_pay15 (rotG hM x n)) shapeCasts_S256x1_S256x1) broadcasts_S256x1_S256x32)
      (scalesUpTo hM x n)

/-- The scales' one piece: the whole block, all 32 lanes set. -/
theorem pieces_7 (c : Dev nD) (t : Fin cfg0.N) (h0 : t.val % 14 = 0) :
    (runA m c t h0).2.2.2.1 = [(⟨Rect.unit ![0, 0] S256x32.size inb_S256x32_S256x32_0_0, scalesUpTo (hs0_0 t) (iblk m c 0 t) 32⟩ :
      View.Piece (Elt F) S256x32 .f32)] := by
  sl_kernel_rfl

/-- The scratch pieces' corner: even pieces are the draft's rows, odd ones the verify rows. -/
abbrev offS (k : ℕ) : Fin 2 → ℕ := ![if k % 2 = 0 then 0 else 256, 128 * ((31 - k / 2) % 32)]

theorem inbS (k : ℕ) : ∀ a, offS k a + S256x128.size a ≤ S512x4096.size a := by
  intro a
  have := Nat.mod_lt (31 - k / 2) (by decide : 0 < 32)
  fin_cases a
  · show (if k % 2 = 0 then 0 else 256) + 256 ≤ 512; split <;> omega
  · show 128 * ((31 - k / 2) % 32) + 128 ≤ 4096; omega

/-- The scratch's pieces: per group the dequantised draft rows over the rotated verify rows, the last group's first. -/
theorem pieces_S (c : Dev nD) (t : Fin cfg0.N) (h0 : t.val % 14 = 0) :
    (runA m c t h0).2.2.2.2.1 = List.ofFn fun k : Fin 64 =>
      (⟨Rect.unit (offS k.val) S256x128.size (inbS k.val),
        if k.val % 2 = 0 then k0_pay19 (rotG (hs0_0 t) (iblk m c 0 t) (31 - k.val / 2))
        else k0_pay20 had (grp (hs0_1 t) (iblk m c 1 t) (31 - k.val / 2))⟩ : View.Piece (Elt F) S512x4096 .bf16) := by
  sl_kernel_rfl

end Cert.KernelIdeal.Hand

end
-- ==== Proof.Had.lean ====
module

public import proofs.«01_k».proof.Proof.Pieces
public import proofs.«01_k».proof.Proof.Ref
public import Idealize.ShloMosaic.Lib.Pipeline.Value

/-! The kernel's table of signs is the reference's table: the Kronecker power of `[[1, 1], [1, -1]]`. Both are the sign
of the parity of the bitwise product of the row and the column. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.Sem

/-- `-1` where the parity is odd, `1` where it is even. -/
def sgn (b : Bool) : EReal := if b then -1 else 1

/-- The sign of a sum of parities is the product of the signs. -/
theorem sgn_mul (a b : Bool) : sgn a * sgn b = sgn (a ^^ b) := by
  cases a <;> cases b <;> simp [sgn]

/-- The parity of the number of positions, among the lowest `n`, at which both numbers have a one. -/
def parity : ℕ → ℕ → ℕ → Bool
  | 0, _, _ => false
  | n + 1, i, j => parity n (i / 2) (j / 2) ^^ decide (i % 2 * (j % 2) = 1)

/-! ## The reference's side -/

section Reference

open Cert.ReferenceIdeal Cert.ReferenceIdeal.Read

/-- The word of the literal 1. -/
theorem one_f32 : Ideal.ofBits .f32 0x3F800000#32 = 1 := by
  rw [← EReal.coe_one]
  simp [Ideal.ofBits, Ideal.ieee, -EReal.coe_mul, -EReal.coe_one]; norm_num

/-- The word of the literal -1. -/
theorem neg_one_f32 : Ideal.ofBits .f32 0xBF800000#32 = -1 := by
  rw [← EReal.coe_one, ← EReal.coe_neg]
  simp [Ideal.ofBits, Ideal.ieee, -EReal.coe_mul, -EReal.coe_one, -EReal.coe_neg]; norm_num

/-- The 2 × 2 table. -/
theorem had2 (i : S2x2.Idx) : val_main_v5 (F := Ideal) i = sgn (parity 1 (i 0).val (i 1).val) := by
  have h : ∀ a b : Fin 2, IntOp.cmpi .eq (IntOp.muli (BitVec.ofNat 32 a.val) (BitVec.ofNat 32 b.val)) 1#32
      = if parity 1 a.val b.val then 1#1 else 0#1 := by decide
  show Scalar.select (IntOp.cmpi .eq (IntOp.muli (BitVec.ofNat 32 (i 0).val) (BitVec.ofNat 32 (i 1).val)) 1#32)
    (Ideal.ofBits .f32 0xBF800000#32) (Ideal.ofBits .f32 0x3F800000#32) = _
  rw [h ⟨(i 0).val, (i 0).isLt⟩ ⟨(i 1).val, (i 1).isLt⟩, one_f32, neg_one_f32]
  cases parity 1 (i 0).val (i 1).val <;> simp [Scalar.select, sgn]

/-- One Kronecker step, read at row `a` and column `b`: the smaller table at the halves times the 2 × 2 table at the
    remainders. -/
theorem kron_step (k : ℕ) (a b : ℕ) (p q r s : ℕ)
    (hp : p = a / 2) (hq : q = b / 2) (hr : r = a % 2) (hs : s = b % 2) :
    FloatOps.mulf (F := Ideal) (φ := .f32) (sgn (parity k p q)) (sgn (parity 1 r s)) = sgn (parity (k + 1) a b) := by
  subst hp hq hr hs
  rw [show FloatOps.mulf (F := Ideal) (φ := .f32) (sgn (parity k (a / 2) (b / 2))) (sgn (parity 1 (a % 2) (b % 2)))
    = sgn (parity k (a / 2) (b / 2)) * sgn (parity 1 (a % 2) (b % 2)) from rfl, sgn_mul]
  simp [parity]

/-- One Kronecker doubling more: the sign by the parity of two bits. -/
theorem had4 (i : S4x4.Idx) : val_main_v6 (F := Ideal) i = sgn (parity 2 (i 0).val (i 1).val) := by
  rw [val_main_v6_apply, val_main_call1_v4_apply, val_main_call1_v2_apply, val_main_call1_v0_apply, val_main_call1_v3_apply, val_main_call1_v1_apply,
    had2, had2]
  have h0 : (i 0).val < 4 := (i 0).isLt
  have h1 : (i 1).val < 4 := (i 1).isLt
  refine kron_step 1 (i 0).val (i 1).val _ _ _ _ ?_ ?_ ?_ ?_ <;> dsimp only <;> omega

/-- The same of three bits. -/
theorem had8 (i : S8x8.Idx) : val_main_v7 (F := Ideal) i = sgn (parity 3 (i 0).val (i 1).val) := by
  rw [val_main_v7_apply, val_main_call2_v4_apply, val_main_call2_v2_apply, val_main_call2_v0_apply, val_main_call2_v3_apply, val_main_call2_v1_apply,
    had4, had2]
  have h0 : (i 0).val < 8 := (i 0).isLt
  have h1 : (i 1).val < 8 := (i 1).isLt
  refine kron_step 2 (i 0).val (i 1).val _ _ _ _ ?_ ?_ ?_ ?_ <;> dsimp only <;> omega

/-- The same of four bits. -/
theorem had16 (i : S16x16.Idx) : val_main_v8 (F := Ideal) i = sgn (parity 4 (i 0).val (i 1).val) := by
  rw [val_main_v8_apply, val_main_call3_v4_apply, val_main_call3_v2_apply, val_main_call3_v0_apply, val_main_call3_v3_apply, val_main_call3_v1_apply,
    had8, had2]
  have h0 : (i 0).val < 16 := (i 0).isLt
  have h1 : (i 1).val < 16 := (i 1).isLt
  refine kron_step 3 (i 0).val (i 1).val _ _ _ _ ?_ ?_ ?_ ?_ <;> dsimp only <;> omega

/-- The same of five bits. -/
theorem had32 (i : S32x32.Idx) : val_main_v9 (F := Ideal) i = sgn (parity 5 (i 0).val (i 1).val) := by
  rw [val_main_v9_apply, val_main_call4_v4_apply, val_main_call4_v2_apply, val_main_call4_v0_apply, val_main_call4_v3_apply, val_main_call4_v1_apply,
    had16, had2]
  have h0 : (i 0).val < 32 := (i 0).isLt
  have h1 : (i 1).val < 32 := (i 1).isLt
  refine kron_step 4 (i 0).val (i 1).val _ _ _ _ ?_ ?_ ?_ ?_ <;> dsimp only <;> omega

/-- The same of six bits. -/
theorem had64 (i : S64x64.Idx) : val_main_v10 (F := Ideal) i = sgn (parity 6 (i 0).val (i 1).val) := by
  rw [val_main_v10_apply, val_main_call5_v4_apply, val_main_call5_v2_apply, val_main_call5_v0_apply, val_main_call5_v3_apply, val_main_call5_v1_apply,
    had32, had2]
  have h0 : (i 0).val < 64 := (i 0).isLt
  have h1 : (i 1).val < 64 := (i 1).isLt
  refine kron_step 5 (i 0).val (i 1).val _ _ _ _ ?_ ?_ ?_ ?_ <;> dsimp only <;> omega

/-- The reference's 128 by 128 matrix, before its scale: the sign of the parity of `i AND j`. -/
theorem had128 (i : S128x128.Idx) : val_main_v11 (F := Ideal) i = sgn (parity 7 (i 0).val (i 1).val) := by
  rw [val_main_v11_apply, val_main_call6_v4_apply, val_main_call6_v2_apply, val_main_call6_v0_apply, val_main_call6_v3_apply, val_main_call6_v1_apply,
    had64, had2]
  have h0 : (i 0).val < 128 := (i 0).isLt
  have h1 : (i 1).val < 128 := (i 1).isLt
  refine kron_step 6 (i 0).val (i 1).val _ _ _ _ ?_ ?_ ?_ ?_ <;> dsimp only <;> omega

end Reference

/-! ## The kernel's side -/

/-- The word whose lowest bit is the parity of the bitwise product of two words below 128. -/
def parWord (a b : BitVec 32) : BitVec 32 :=
  let p := IntOp.andi a b
  let p := IntOp.xori p (IntOp.shrsi .vector p 4#32)
  let p := IntOp.xori p (IntOp.shrsi .vector p 2#32)
  let p := IntOp.xori p (IntOp.shrsi .vector p 1#32)
  IntOp.andi p 1#32

/-- Rounding a word's quotient by 128 towards minus infinity, as the kernel does. -/
def floorDiv (a : BitVec 32) : BitVec 32 :=
  Scalar.select (IntOp.andi
      (IntOp.cmpi .ne (IntOp.subi ((IntOp.cmpi .sgt a 0#32).setWidth 32) ((IntOp.cmpi .slt a 0#32).setWidth 32))
        (Scalar.subi (Scalar.extui (Scalar.cmpi .sgt 128#32 0#32)) (Scalar.extui (Scalar.cmpi .slt 128#32 0#32))))
      (IntOp.cmpi .ne (IntOp.remsi .vector a 128#32) 0#32))
    (IntOp.subi (IntOp.divsi .vector a 128#32) 1#32) (IntOp.divsi .vector a 128#32)

/-- The kernel's three shifts and exclusive-ors compute the parity of `i AND j`. -/
theorem parWord_eq : ∀ i j : Fin 128, parWord (BitVec.ofNat 32 i.val) (BitVec.ofNat 32 j.val) = if parity 7 i.val j.val then 1#32 else 0#32 := by
  decide +kernel

/-- Every row number is in group 0. -/
theorem floorDiv_eq : ∀ i : Fin 128, floorDiv (BitVec.ofNat 32 i.val) = 0#32 := by
  decide +kernel

/-- The kernel's matrix at an entry: where row and column are in one group, one less twice the parity. -/
theorem had_apply (i : S128x128.Idx) : had (F := Ideal) i =
    Scalar.select (IntOp.cmpi .eq (floorDiv (BitVec.ofNat 32 (i 0).val)) (floorDiv (BitVec.ofNat 32 (i 1).val)))
      (Ideal.ofBits .f32 0x3F800000#32 - Ideal.ofBits .f32 0x40000000#32 * (((parWord (BitVec.ofNat 32 (i 0).val) (BitVec.ofNat 32 (i 1).val)).toInt : ℝ) : EReal))
      (Ideal.ofBits .f32 0x00000000#32) := by
  rw [← iota_single_apply .tc S128x128 32 0 iota_S128x128_d0_w32 i, ← iota_single_apply .tc S128x128 32 1 iota_S128x128_d1_w32 i]
  rfl

/-- The kernel's table at an index. -/
theorem had_eq (i : S128x128.Idx) : had (F := Ideal) i = sgn (parity 7 (i 0).val (i 1).val) := by
  rw [had_apply, floorDiv_eq ⟨(i 0).val, (i 0).isLt⟩, floorDiv_eq ⟨(i 1).val, (i 1).isLt⟩,
    parWord_eq ⟨(i 0).val, (i 0).isLt⟩ ⟨(i 1).val, (i 1).isLt⟩]
  have h2 : Ideal.ofBits .f32 0x40000000#32 = ((2 : ℝ) : EReal) := by
    simp [Ideal.ofBits, Ideal.ieee, -EReal.coe_mul]; norm_num
  have h1 : Ideal.ofBits .f32 0x3F800000#32 = ((1 : ℝ) : EReal) := one_f32
  rw [h1, h2]
  rw [show IntOp.cmpi .eq (0#32 : BitVec 32) 0#32 = 1#1 by decide, show ∀ x y : EReal, Scalar.select 1#1 x y = x from fun x y => if_pos rfl]
  cases parity 7 (i 0).val (i 1).val
  · simp [sgn]
  · simp only [sgn, if_true]
    rw [show ((1#32 : BitVec 32).toInt : ℝ) = 1 by norm_num, ← EReal.coe_mul, ← EReal.coe_sub]
    norm_num

end Cert.KernelIdeal.Hand

end

end
-- ==== Proof.Rot.lean ====
module

public import proofs.«01_k».proof.Proof.Had
public import Idealize.ShloMosaic.Lib.MatmulPlain

/-! The rotation: a group of 128 columns times the signed matrix, scaled. The kernel scales the product, the reference
scales the matrix. -/

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx
open Idealize.SL Idealize.SL.Sem
open scoped BigOperators

/-- Column `l` of group `g`. -/
abbrev col (g : Fin 32) (l : Fin 128) : Fin 4096 := ⟨128 * g.val + l.val, by omega⟩

/-- An activation as the reference takes it. -/
abbrev Act := (⟨Cert.ReferenceIdeal.S1x256x4096, .bf16⟩ : BufTy).Contents (Elt Ideal)

/-- The block holds the activation's values, the leading unit axis dropped. -/
def Same (x : Vec Ideal S256x4096 .bf16) (x0 : Act) : Prop :=
  ∀ (r : Fin 256) (c : Fin 4096), x (ix2 r c) = x0 (ix3 0 r c)

/-- The factor `1 / √128`, as the word both programs hold. -/
def rs : EReal := Ideal.ofBits .f32 0x3DB504F3#32

/-- The scale of the rotation is a real number, not negative. -/
theorem rs_coe : ∃ r : ℝ, 0 ≤ r ∧ rs = (r : EReal) := by
  refine ⟨_, ?_, by unfold rs; simp only [Ideal.ofBits, Ideal.ieee]; rfl⟩
  rw [if_neg (by decide)]
  positivity

/-- It is not negative. -/
theorem rs_nonneg : 0 ≤ rs := by
  obtain ⟨r, h, e⟩ := rs_coe
  rw [e]; exact_mod_cast h

/-- It is finite. -/
theorem rs_ne_top : rs ≠ ⊤ := by
  obtain ⟨r, h, e⟩ := rs_coe
  rw [e]; exact EReal.coe_ne_top r

/-- A finite sum times a finite factor that is not negative is the sum of the products, whatever the terms. -/
theorem sum_mul_of_nonneg {ι : Type} (s : Finset ι) (f : ι → EReal) {c : EReal} (h : 0 ≤ c) (h' : c ≠ ⊤) :
    (∑ k ∈ s, f k) * c = ∑ k ∈ s, f k * c := by
  classical
  induction s using Finset.induction_on with
  | empty => simp
  | insert a s ha ih => rw [Finset.sum_insert ha, Finset.sum_insert ha, EReal.right_distrib_of_nonneg_of_ne_top h h', ih]

/-- The rotated activation, as both programs compute it. -/
def rotated (x0 : Act) (r : Fin 256) (g : Fin 32) (l : Fin 128) : EReal :=
  ∑ k : Fin 128, x0 (ix3 0 r (col g k)) * (sgn (parity 7 k.val l.val) * rs)

/-! ## The kernel's side -/

/-- A group as the body reads it holds the block's columns of that group. -/
theorem grp_apply {M : Memref sig .tc .vmem S256x4096 .bf16} (hM : M.IsWhole) (x : Vec Ideal S256x4096 .bf16) (g : Fin 32)
    (r : Fin 256) (l : Fin 128) : grp (F := Ideal) hM x g.val (ix2 r l) = x (ix2 r (col g l)) := by
  unfold grp
  rw [View.readAt_eq_ld, hM.read_unread]
  refine View.ld_unit_apply_of x _ _ (inbG g.val) (ix2 r l) (ix2 r (col g l)) fun a => ?_
  match a with
  | ⟨0, _⟩ => show r.val = 0 + r.val; omega
  | ⟨1, _⟩ => show 128 * g.val + l.val = 128 * (g.val % 32) + l.val; omega

/-- The kernel's rotated block. -/
theorem pay21_apply (y : FVec Ideal S256x128 .bf16) (r : Fin 256) (l : Fin 128) :
    k0_pay21 (F := Ideal) had y (ix2 r l) = (∑ k : Fin 128, y (ix2 r k) * sgn (parity 7 k.val l.val)) * rs := by
  unfold k0_pay21
  rw [shapeCast_self]
  have h : matmul dot_S256x128_S128x128_S256x128_1_0_0_1_n_n none y (had (F := Ideal)) (constant S256x128 .f32 0x00000000#32) (ix2 r l)
      = ∑ k : Fin 128, y (ix2 r k) * had (F := Ideal) (ix2 k l) := by
    refine (Ideal.matmul_plain_apply (M := 256) (K := 128) (N := 128) none y had (constant S256x128 .f32 0x00000000#32) r l).trans ?_
    show Ideal.ofBits .f32 0x00000000#32 + _ = _
    rw [Ideal.ofBits_zero_f32, zero_add]
  show matmul dot_S256x128_S128x128_S256x128_1_0_0_1_n_n none y (had (F := Ideal)) (constant S256x128 .f32 0x00000000#32) (ix2 r l) * rs = _
  rw [h]
  congr 1
  exact Finset.sum_congr rfl fun k _ => by rw [had_eq]

/-- The kernel's rotated group is the rotated activation. -/
theorem rotG_apply {M : Memref sig .tc .vmem S256x4096 .bf16} (hM : M.IsWhole) {x : Vec Ideal S256x4096 .bf16} {x0 : Act} (h : Same x x0)
    (g : Fin 32) (r : Fin 256) (l : Fin 128) : rotG (F := Ideal) hM x g.val (ix2 r l) = rotated x0 r g l := by
  unfold rotG rotated
  rw [pay21_apply, sum_mul_of_nonneg _ _ rs_nonneg rs_ne_top]
  exact Finset.sum_congr rfl fun k _ => by rw [grp_apply, h r (col g k), mul_assoc]

/-- The group of the other activation, rotated and stored in bf16, likewise. -/
theorem pay20_apply {M : Memref sig .tc .vmem S256x4096 .bf16} (hM : M.IsWhole) {x : Vec Ideal S256x4096 .bf16} {x0 : Act} (h : Same x x0)
    (g : Fin 32) (r : Fin 256) (l : Fin 128) : k0_pay20 (F := Ideal) had (grp hM x g.val) (ix2 r l) = rotated x0 r g l := by
  unfold k0_pay20
  rw [shapeCast_self]
  exact rotG_apply hM h g r l

/-! ## The reference's side -/

section Reference

open Cert.ReferenceIdeal Cert.ReferenceIdeal.Read

/-- The reference's activation, by groups. -/
theorem ref_v15 (x0 : Act) (r : Fin 256) (g : Fin 32) (l : Fin 128) :
    val_main_v15 (F := Ideal) x0 (ix4 0 r g l) = x0 (ix3 0 r (col g l)) := by
  rw [val_main_v15_apply, val_main_v14_apply]
  show x0 _ = x0 _
  congr 1
  funext a
  apply Fin.ext
  match a with
  | ⟨0, _⟩ => rfl
  | ⟨1, _⟩ => show (((0 * 256 + r.val) * 32 + g.val) * 128 + l.val) / 4096 % 256 = r.val; omega
  | ⟨2, _⟩ => show (((0 * 256 + r.val) * 32 + g.val) * 128 + l.val) % 4096 = 128 * g.val + l.val; omega

/-- The reference's rotation, by groups. -/
theorem ref_v16 (x0 : Act) (r : Fin 256) (g : Fin 32) (l : Fin 128) :
    val_main_v16 (F := Ideal) x0 (ix4 0 r g l) = rotated x0 r g l := by
  rw [val_main_v16_apply]
  unfold rotated
  refine Finset.sum_congr rfl fun k _ => ?_
  rw [show lidx_main_v16 (ix4 0 r g l) k = ix4 0 r g k from eq_ix4 _, ref_v15, val_main_v13_apply, had128]
  rfl

/-- The same, by columns. -/
theorem ref_v17 (x0 : Act) (r : Fin 256) (g : Fin 32) (l : Fin 128) :
    val_main_v17 (F := Ideal) x0 (ix3 0 r (col g l)) = rotated x0 r g l := by
  rw [val_main_v17_apply, ← ref_v16]
  congr 1
  funext a
  apply Fin.ext
  match a with
  | ⟨0, _⟩ => rfl
  | ⟨1, _⟩ => show ((0 * 256 + r.val) * 4096 + (128 * g.val + l.val)) / 4096 % 256 = r.val; omega
  | ⟨2, _⟩ => show ((0 * 256 + r.val) * 4096 + (128 * g.val + l.val)) / 128 % 32 = g.val; omega
  | ⟨3, _⟩ => show ((0 * 256 + r.val) * 4096 + (128 * g.val + l.val)) % 128 = l.val; omega

/-- The second argument is rotated as the first is. -/
theorem ref_v21 (x1 : Act) : val_main_v21 (F := Ideal) x1 = val_main_v17 (F := Ideal) x1 := rfl

/-- The rotated activation, by groups again. -/
theorem ref_v43 (x0 : Act) (r : Fin 256) (g : Fin 32) (l : Fin 128) :
    val_main_v43 (F := Ideal) x0 (ix4 0 r g l) = rotated x0 r g l := by
  rw [val_main_v43_apply, ← ref_v17]
  congr 1
  funext a
  apply Fin.ext
  match a with
  | ⟨0, _⟩ => rfl
  | ⟨1, _⟩ => show (((0 * 256 + r.val) * 32 + g.val) * 128 + l.val) / 4096 % 256 = r.val; omega
  | ⟨2, _⟩ => show (((0 * 256 + r.val) * 32 + g.val) * 128 + l.val) % 4096 = 128 * g.val + l.val; omega

end Reference

end Cert.KernelIdeal.Hand

end
-- ==== Proof.Quant.lean ====
module

public import proofs.«01_k».proof.Proof.Rot

/-! The quantiser of a rotated group: its scale, its clipped quotients, its codes and the values the codes stand for, on
both sides. -/

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx
open Idealize.SL Idealize.SL.Sem
open scoped BigOperators

/-! ## The mathematics -/

/-- The largest magnitude of a rotated group. -/
def amax (x0 : Act) (r : Fin 256) (g : Fin 32) : EReal :=
  (Finset.univ : Finset (Fin 128)).fold max (Ideal.ofBits .f32 0xFF800000#32)
    (fun l => max (rotated x0 r g l) (-rotated x0 r g l))

/-- The group's scale: a seventh of the largest magnitude, one for a group of zeros. -/
def scaleOf (x0 : Act) (r : Fin 256) (g : Fin 32) : EReal :=
  Scalar.select (Ideal.cmp .oeq (amax x0 r g) (Ideal.ofBits .f32 0x00000000#32)) (Ideal.ofBits .f32 0x3F800000#32)
    (Ideal.div (amax x0 r g) (Ideal.ofBits .f32 0x40E00000#32))

/-- The quotient by the scale, rounded to the nearest integer and clipped to `[-7, 7]`. -/
def clipped (x0 : Act) (r : Fin 256) (g : Fin 32) (l : Fin 128) : EReal :=
  min (Ideal.ofBits .f32 0x40E00000#32)
    (max (Ideal.ofBits .f32 0xC0E00000#32) (Ideal.liftRound Ideal.roundHalfEven (Ideal.div (rotated x0 r g l) (scaleOf x0 r g))))

/-- The word of the literal 7. -/
theorem seven_f32 : Ideal.ofBits .f32 0x40E00000#32 = (((7 : ℤ) : ℝ) : EReal) := by
  simp [Ideal.ofBits, Ideal.ieee, -EReal.coe_mul]; norm_num

/-- The word of the literal -7. -/
theorem neg_seven_f32 : Ideal.ofBits .f32 0xC0E00000#32 = (((-7 : ℤ) : ℝ) : EReal) := by
  simp [Ideal.ofBits, Ideal.ieee, -EReal.coe_mul]; norm_num

/-- A clipped quotient is an integer between -7 and 7, whatever the quotient is. -/
theorem clipped_int (x0 : Act) (r : Fin 256) (g : Fin 32) (l : Fin 128) :
    ∃ n : ℤ, -7 ≤ n ∧ n ≤ 7 ∧ clipped x0 r g l = ((n : ℝ) : EReal) := by
  unfold clipped
  rw [seven_f32, neg_seven_f32]
  generalize Ideal.div (rotated x0 r g l) (scaleOf x0 r g) = q
  induction q using EReal.rec with
  | bot =>
    refine ⟨-7, le_refl _, by norm_num, ?_⟩
    show min _ (max _ (⊥ : EReal)) = _
    rw [max_eq_left bot_le, min_eq_right (EReal.coe_le_coe_iff.2 (by norm_num))]
  | top =>
    refine ⟨7, by norm_num, le_refl _, ?_⟩
    show min _ (max _ (⊤ : EReal)) = _
    rw [max_eq_right le_top, min_eq_left le_top]
  | coe q =>
    refine ⟨min 7 (max (-7) (Ideal.roundHalfEven q)), by omega, by omega, ?_⟩
    rw [Ideal.liftRound_coe]
    rw [Int.cast_min, Int.cast_max, EReal.coe_strictMono.monotone.map_min, EReal.coe_strictMono.monotone.map_max]

/-- An integer from -7 to 7 converts to itself. -/
theorem fptosi_of_int (n : ℤ) (h : -7 ≤ n) (h' : n ≤ 7) (w : ℕ) (hw : w = 8 ∨ w = 32) :
    Ideal.fptosi w ((n : ℝ) : EReal) = BitVec.ofInt w n := by
  unfold Ideal.fptosi
  rw [Ideal.toIntClamped_coe, Int.floor_intCast, Int.ceil_intCast, ite_self]
  congr 1
  rcases hw with rfl | rfl <;> norm_num <;> omega

/-- The code of eight bits, and of 32 bits cut to eight, are the same word. -/
theorem code_eq (x0 : Act) (r : Fin 256) (g : Fin 32) (l : Fin 128) :
    (Ideal.fptosi 32 (clipped x0 r g l)).setWidth 8 = Ideal.fptosi 8 (clipped x0 r g l) := by
  obtain ⟨n, h, h', e⟩ := clipped_int x0 r g l
  rw [e, fptosi_of_int n h h' 32 (.inr rfl), fptosi_of_int n h h' 8 (.inl rfl)]
  interval_cases n <;> rfl

/-- The code read back as a number is the clipped quotient. -/
theorem code_toInt (x0 : Act) (r : Fin 256) (g : Fin 32) (l : Fin 128) :
    ((((Ideal.fptosi 8 (clipped x0 r g l)).signExtend 32).toInt : ℝ) : EReal) = clipped x0 r g l := by
  obtain ⟨n, h, h', e⟩ := clipped_int x0 r g l
  rw [e, fptosi_of_int n h h' 8 (.inl rfl)]
  have : ((BitVec.ofInt 8 n).signExtend 32).toInt = n := by interval_cases n <;> rfl
  rw [this]

/-! ## The kernel's side -/

/-- The rows' maxima put back as a column. -/
theorem column_apply {α : Type} (v : S256.Idx → α) (h : S256.ShapeCasts S256x1) (r : Fin 256) :
    shapeCast S256x1 v h (ix2 r 0) = v (ix1 r) := by
  refine shapeCast_apply v h (ix2 r 0) (ix1 r) ?_
  rw [Shape.rowMajor_val_one, Shape.rowMajor_val_two]
  show r.val = r.val * 1 + 0
  omega

/-- A column spread over the lanes. -/
theorem spread_apply {α : Type} {n : ℕ} (v : S256x1.Idx → α) (h : S256x1.Broadcasts ⟨2, ![256, n]⟩) (r : Fin 256) (l : Fin n) :
    broadcastTo ⟨2, ![256, n]⟩ v h (ix2 r l) = v (ix2 r 0) := by
  refine broadcastTo_apply v h (ix2 r l) (ix2 r 0) fun a => ?_
  match a with
  | ⟨0, _⟩ => rfl
  | ⟨1, _⟩ => rfl

/-- A row's maximum, over its 128 lanes. -/
theorem rowMax_apply (y : FVec Ideal S256x128 .f32) (r : Fin 256) :
    multiReduction .maximumf [1] S256 (absf y) 0xFF800000#32 reduces_S256x128_S256 (.inl rfl) rfl (ix1 r)
      = (Finset.univ : Finset (Fin 128)).fold max (Ideal.ofBits .f32 0xFF800000#32) (fun l => max (y (ix2 r l)) (-y (ix2 r l))) := by
  refine (Ideal.multiReduction_maximumf_single _ _ reduces_S256x128_S256 _ _ (ix1 r)).trans ?_
  refine congrArg (Finset.fold max _ · _) (funext fun l => ?_)
  have e : Shape.Reduces.lift reduces_S256x128_S256 (ix1 r) l = ix2 r l := by
    funext a; apply Fin.ext
    match a with
    | ⟨0, _⟩ => rfl
    | ⟨1, _⟩ => rfl
  show max (y _) (-y _) = _
  rw [e]
  rfl

section Kernel

variable {y : FVec Ideal S256x128 .f32} {x0 : Act} {g : Fin 32} (hy : ∀ r l, y (ix2 r l) = rotated x0 r g l)

include hy

/-- The kernel's scale of a row and group. -/
theorem pay15_apply (r : Fin 256) : k0_pay15 (F := Ideal) y (ix2 r 0) = scaleOf x0 r g := by
  have hm : shapeCast S256x1 (multiReduction .maximumf [1] S256 (absf y) 0xFF800000#32 reduces_S256x128_S256 (.inl rfl) rfl)
      shapeCasts_S256_S256x1 (ix2 r 0) = amax x0 r g := by
    rw [column_apply, rowMax_apply]
    unfold amax
    simp only [hy]
  unfold k0_pay15 scaleOf
  generalize shapeCast S256x1 (multiReduction .maximumf [1] S256 (absf y) 0xFF800000#32 reduces_S256x128_S256 (.inl rfl) rfl)
    shapeCasts_S256_S256x1 = c at hm
  rw [← hm]
  rfl

/-- The kernel's clipped quotient. -/
theorem pay16_apply (r : Fin 256) (l : Fin 128) : k0_pay16 (F := Ideal) y (ix2 r l) = clipped x0 r g l := by
  have hs : broadcastTo S256x128 (k0_pay15 (F := Ideal) y) broadcasts_S256x1_S256x128 (ix2 r l) = scaleOf x0 r g := by
    rw [spread_apply, pay15_apply hy]
  unfold k0_pay16 clipped
  generalize broadcastTo S256x128 (k0_pay15 (F := Ideal) y) broadcasts_S256x1_S256x128 = c at hs
  rw [← hs, ← hy]
  rfl

/-- The kernel's code. -/
theorem pay17_apply (r : Fin 256) (l : Fin 128) : k0_pay17 (F := Ideal) y (ix2 r l) = Ideal.fptosi 8 (clipped x0 r g l) := by
  rw [← pay16_apply hy]
  unfold k0_pay17
  rfl

/-- The kernel's dequantised draft activation. -/
theorem pay19_apply (r : Fin 256) (l : Fin 128) : k0_pay19 (F := Ideal) y (ix2 r l) = clipped x0 r g l * scaleOf x0 r g := by
  have hp := pay16_apply hy r l
  have hs := pay15_apply hy r
  unfold k0_pay19
  rw [shapeCast_self]
  generalize k0_pay16 (F := Ideal) y = p at hp ⊢
  generalize k0_pay15 (F := Ideal) y = c at hs ⊢
  show p (ix2 r l) * broadcastTo S256x128 (truncf .bf16 c bitsLt_bf16_f32) broadcasts_S256x1_S256x128 (ix2 r l) = _
  rw [spread_apply, hp]
  show _ * c (ix2 r 0) = _
  rw [hs]

end Kernel

/-! ## The reference's side -/

section Reference

open Cert.ReferenceIdeal Cert.ReferenceIdeal.Read

/-- The reference's largest magnitude of a row and group. -/
theorem ref_v45 (x0 : Act) (r : Fin 256) (g : Fin 32) : val_main_v45 (F := Ideal) x0 (ix3 0 r g) = amax x0 r g := by
  have hw : ∀ l : Fin 128, val_main_v44 (F := Ideal) x0 (ix4 0 r g l) = max (rotated x0 r g l) (-rotated x0 r g l) := fun l => by
    rw [val_main_v44_apply, ref_v43]
    rfl
  have hR : S1x256x32x128.Reduces [3] S1x256x32 := by decide
  have e : ∀ l : Fin 128, hR.lift (a := (3 : Fin 4)) (ix3 0 r g) l = ix4 0 r g l := fun l => by
    funext a; apply Fin.ext
    match a with
    | ⟨0, _⟩ => rfl
    | ⟨1, _⟩ => rfl
    | ⟨2, _⟩ => rfl
    | ⟨3, _⟩ => rfl
  unfold val_main_v45 amax
  generalize val_main_v44 (F := Ideal) x0 = w at hw
  rw [Host.reduce_eq_fold_single (a := (3 : Fin 4)) (FloatOps.maximumf (F := Ideal)) w _ _ hR]
  simp only [← hw, ← e]
  rfl

/-- The reference's scale. -/
theorem ref_v50 (x0 : Act) (r : Fin 256) (g : Fin 32) : val_main_v50 (F := Ideal) x0 (ix3 0 r g) = scaleOf x0 r g := by
  rw [val_main_v50_apply, val_main_v47_apply, val_main_v49_apply, ref_v45, val_main_v46_apply, val_main_v48_apply,
    val_main_call7_v0_apply]
  rfl

/-- The reference's clipped quotient. -/
theorem ref_v55 (x0 : Act) (r : Fin 256) (g : Fin 32) (l : Fin 128) :
    val_main_v55 (F := Ideal) x0 (ix4 0 r g l) = clipped x0 r g l := by
  rw [val_main_v55_apply, val_main_call9_v2_apply, val_main_v54_apply, val_main_v53_apply, ref_v43, val_main_v52_apply,
    val_main_v51_apply, show idx_main_v51 (idx_main_v52 (ix4 0 r g l)) = ix3 0 r g from eq_ix3 _, ref_v50,
    val_main_call9_v4_apply, val_main_call9_v1_apply]
  rfl

/-- The reference's code as an 8-bit integer, by groups. -/
theorem ref_v57 (x0 : Act) (r : Fin 256) (g : Fin 32) (l : Fin 128) :
    val_main_v57 (F := Ideal) x0 (ix4 0 r g l) = Ideal.fptosi 8 (clipped x0 r g l) := by
  rw [val_main_v57_apply, val_main_v56_apply, ref_v55]
  exact code_eq x0 r g l

/-- The reference's code, by columns. -/
theorem ref_v58 (x0 : Act) (r : Fin 256) (g : Fin 32) (l : Fin 128) :
    val_main_v58 (F := Ideal) x0 (ix3 0 r (col g l)) = Ideal.fptosi 8 (clipped x0 r g l) := by
  rw [val_main_v58_apply, ← ref_v57]
  congr 1
  funext a
  apply Fin.ext
  match a with
  | ⟨0, _⟩ => rfl
  | ⟨1, _⟩ => show ((0 * 256 + r.val) * 4096 + (128 * g.val + l.val)) / 4096 % 256 = r.val; omega
  | ⟨2, _⟩ => show ((0 * 256 + r.val) * 4096 + (128 * g.val + l.val)) / 128 % 32 = g.val; omega
  | ⟨3, _⟩ => show ((0 * 256 + r.val) * 4096 + (128 * g.val + l.val)) % 128 = l.val; omega

/-- The dequantised activation, at lane `2 m + b` of a group. -/
theorem ref_v65 (x0 : Act) (r : Fin 256) (g : Fin 32) (m : Fin 64) (b : Fin 2) (l : Fin 128) (hl : l.val = 2 * m.val + b.val) :
    val_main_v65 (F := Ideal) x0 (ix5 0 r g m b) = clipped x0 r g l * scaleOf x0 r g := by
  rw [val_main_v65_apply, val_main_v61_apply, val_main_v60_apply, val_main_v59_apply, val_main_v64_apply, val_main_v63_apply,
    val_main_v62_apply]
  have e : idx_main_v61 (ix5 0 r g m b) = ix3 0 r (col g l) := by
    funext a
    apply Fin.ext
    match a with
    | ⟨0, _⟩ => rfl
    | ⟨1, _⟩ => show ((((0 * 256 + r.val) * 32 + g.val) * 64 + m.val) * 2 + b.val) / 4096 % 256 = r.val; omega
    | ⟨2, _⟩ => show ((((0 * 256 + r.val) * 32 + g.val) * 64 + m.val) * 2 + b.val) % 4096 = 128 * g.val + l.val; omega
  rw [e, ref_v58, show idx_main_v63 (idx_main_v64 (ix5 0 r g m b)) = ix3 0 r g from eq_ix3 _, ref_v50]
  show ((((Ideal.fptosi 8 (clipped x0 r g l)).signExtend 32).toInt : ℝ) : EReal) * scaleOf x0 r g = _
  rw [code_toInt]

end Reference

end Cert.KernelIdeal.Hand

end
-- ==== Proof.Tiles.lean ====
/- What each point leaves in the two matrix outputs' buffers, and what the prepared buffers hold at an index. -/
module

public import proofs.«01_k».proof.Proof.Pieces
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.Sem

variable {F : FTy → Type} [FloatOps F]

variable (m : (ℓ : Loc nD τ sig) → Buf (Elt F) ℓ)

/-- The whole block lies in itself. -/
theorem inb0 (d : Fin 2 → ℕ) : ∀ a, (![0, 0] : Fin 2 → ℕ) a + d a ≤ d a := by
  intro a; fin_cases a <;> simp

/-- The offset of a whole block. -/
theorem off0 : (![0, 0] : Fin 2 → ℕ) = fun _ => 0 := by
  funext a; fin_cases a <;> rfl

/-- The whole of a two-axis block. -/
abbrev wholeR (d : Fin 2 → ℕ) : Rect ⟨2, d⟩ := Rect.unit (s := ⟨2, d⟩) ![0, 0] d (inb0 d)

/-- A load of a whole buffer reads its contents. -/
theorem readAt_whole {d : Fin 2 → ℕ} {e : EltTy} {M : Memref sig .tc .vmem ⟨2, d⟩ e} (hM : M.IsWhole) (x : Vec F ⟨2, d⟩ e) :
    View.readAt (Elt F) M.view (wholeR d).toLoadRect (hM.unread x) = x := by
  rw [View.readAt_eq_ld, hM.read_unread]
  exact View.ld_unit_zero off0 _ x

/-- At the first point the draft's tile is stored whole, made of what the point has just put in the scratch. -/
theorem pieces_A4 (c : Dev nD) (t : Fin cfg0.N) (h0 : t.val % 14 = 0) :
    (runA m c t h0).1 = [(⟨wholeR ![256, 1024], k0_pay6
      (View.readAt (Elt F) (ms0_2 t).view (wholeR ![2048, 1024]).toLoadRect ((hs0_2 t).unread (iblk m c 2 t)))
      (View.readAt (Elt F) (ms0_3 t).view (wholeR ![32, 1024]).toLoadRect ((hs0_3 t).unread (iblk m c 3 t)))
      (scM0_0.view.readCov (runA m c t h0).2.2.2.2.1 (wholeR ![512, 4096]).toLoadRect)⟩ : View.Piece (Elt F) S256x1024 .bf16)] := by
  sl_kernel_rfl

/-- The verify tile likewise. -/
theorem pieces_A5 (c : Dev nD) (t : Fin cfg0.N) (h0 : t.val % 14 = 0) :
    (runA m c t h0).2.1 = [(⟨wholeR ![256, 1024], k0_pay7
      (View.readAt (Elt F) (ms0_2 t).view (wholeR ![2048, 1024]).toLoadRect ((hs0_2 t).unread (iblk m c 2 t)))
      (View.readAt (Elt F) (ms0_3 t).view (wholeR ![32, 1024]).toLoadRect ((hs0_3 t).unread (iblk m c 3 t)))
      (scM0_0.view.readCov (runA m c t h0).2.2.2.2.1 (wholeR ![512, 4096]).toLoadRect)⟩ : View.Piece (Elt F) S256x1024 .bf16)] := by
  sl_kernel_rfl

/-- At a later point the tiles are made of what the scratch holds. -/
theorem pieces_B4 (c : Dev nD) (t : Fin cfg0.N) (h0 : ¬t.val % 14 = 0) :
    (runB m c t h0).1 = [(⟨wholeR ![256, 1024], k0_pay6
      (View.readAt (Elt F) (ms0_2 t).view (wholeR ![2048, 1024]).toLoadRect ((hs0_2 t).unread (iblk m c 2 t)))
      (View.readAt (Elt F) (ms0_3 t).view (wholeR ![32, 1024]).toLoadRect ((hs0_3 t).unread (iblk m c 3 t)))
      (View.readAt (Elt F) scM0_0.view (wholeR ![512, 4096]).toLoadRect ((Memref.isWhole_whole cc0_scratch0).unread (prep m c)))⟩ :
      View.Piece (Elt F) S256x1024 .bf16)] := by
  sl_kernel_rfl

/-- What a later step writes into the verify products' block. -/
theorem pieces_B5 (c : Dev nD) (t : Fin cfg0.N) (h0 : ¬t.val % 14 = 0) :
    (runB m c t h0).2.1 = [(⟨wholeR ![256, 1024], k0_pay7
      (View.readAt (Elt F) (ms0_2 t).view (wholeR ![2048, 1024]).toLoadRect ((hs0_2 t).unread (iblk m c 2 t)))
      (View.readAt (Elt F) (ms0_3 t).view (wholeR ![32, 1024]).toLoadRect ((hs0_3 t).unread (iblk m c 3 t)))
      (View.readAt (Elt F) scM0_0.view (wholeR ![512, 4096]).toLoadRect ((Memref.isWhole_whole cc0_scratch0).unread (prep m c)))⟩ :
      View.Piece (Elt F) S256x1024 .bf16)] := by
  sl_kernel_rfl

/-- A buffer that covering stores left, read back whole, before or after: the same contents. -/
theorem readCov_whole {d : Fin 2 → ℕ} {e : EltTy} (v : View sig .tc .vmem ⟨2, d⟩ e) (L : List (View.Piece (Elt F) ⟨2, d⟩ e))
    (h : ∀ y, ∃ p ∈ L, y ∈ p.1.set) : v.readCov L (wholeR d).toLoadRect = v.read (Elt F) (v.writes (Elt F) v.junk L) := by
  rw [View.readCov_eq_canon_ld _ _ _ h, View.read_writes_eq_canon _ _ _ h]
  exact View.ld_unit_zero off0 _ _

/-- A buffer that one store of the whole left holds what was stored. -/
theorem read_whole_piece {d : Fin 2 → ℕ} {e : EltTy} (v : View sig .tc .vmem ⟨2, d⟩ e) (L : List (View.Piece (Elt F) ⟨2, d⟩ e))
    (h : ∀ y, ∃ p ∈ L, y ∈ p.1.set) (w : Vec F ⟨2, d⟩ e) (hL : L = [(⟨wholeR d, w⟩ : View.Piece (Elt F) ⟨2, d⟩ e)]) :
    v.read (Elt F) (v.writes (Elt F) v.junk L) = w := by
  rw [View.read_writes_eq_canon _ _ _ h, hL]
  exact View.canon_unit_zero off0 _ w

/-- The scratch read back within the first point is what it holds afterwards. -/
theorem readCov_scratch (c : Dev nD) (t : Fin cfg0.N) (h0 : t.val % 14 = 0) :
    scM0_0.view.readCov (runA m c t h0).2.2.2.2.1 (wholeR ![512, 4096]).toLoadRect = soutA m c t h0 :=
  readCov_whole VS0_0 _ (cover_soutA m c t h0)

/-- The first point is the only one at which the scratch is written. -/
theorem first_eq (t : Fin cfg0.N) (h0 : t.val % 14 = 0) : t = t₀ := by
  have ht : t.val < 14 := Nat.lt_of_lt_of_eq t.isLt N_0
  exact Fin.ext (by show t.val = 0; omega)

/-- The first step leaves the prepared activations in the scratch. -/
theorem soutA_eq (c : Dev nD) (t : Fin cfg0.N) (h0 : t.val % 14 = 0) : soutA m c t h0 = prep m c := by
  obtain rfl := first_eq t h0
  rfl

/-- EVERY POINT leaves in output 4's buffer the upper half of the product of the prepared activations with its block of
    weights. -/
theorem outAt_4_eq (c : Dev nD) (t : Fin cfg0.N) : outAt_4 m c t = k0_pay6 (iblk m c 2 t) (iblk m c 3 t) (prep m c) := by
  unfold outAt_4
  split
  · rename_i h0
    refine (read_whole_piece VO0_4 _ (cover_outA_4 m c t h0) _ (pieces_A4 m c t h0)).trans ?_
    exact congr (congr (congrArg k0_pay6 (readAt_whole (hs0_2 t) (iblk m c 2 t))) (readAt_whole (hs0_3 t) (iblk m c 3 t)))
      ((readCov_scratch m c t h0).trans (soutA_eq m c t h0))
  · rename_i h0
    refine (read_whole_piece VO0_4 _ (cover_outB_4 m c t h0) _ (pieces_B4 m c t h0)).trans ?_
    exact congr (congr (congrArg k0_pay6 (readAt_whole (hs0_2 t) (iblk m c 2 t))) (readAt_whole (hs0_3 t) (iblk m c 3 t)))
      (readAt_whole (Memref.isWhole_whole cc0_scratch0) (prep m c))

/-- EVERY POINT leaves in output 5's buffer the lower half. -/
theorem outAt_5_eq (c : Dev nD) (t : Fin cfg0.N) : outAt_5 m c t = k0_pay7 (iblk m c 2 t) (iblk m c 3 t) (prep m c) := by
  unfold outAt_5
  split
  · rename_i h0
    refine (read_whole_piece VO0_5 _ (cover_outA_5 m c t h0) _ (pieces_A5 m c t h0)).trans ?_
    exact congr (congr (congrArg k0_pay7 (readAt_whole (hs0_2 t) (iblk m c 2 t))) (readAt_whole (hs0_3 t) (iblk m c 3 t)))
      ((readCov_scratch m c t h0).trans (soutA_eq m c t h0))
  · rename_i h0
    refine (read_whole_piece VO0_5 _ (cover_outB_5 m c t h0) _ (pieces_B5 m c t h0)).trans ?_
    exact congr (congr (congrArg k0_pay7 (readAt_whole (hs0_2 t) (iblk m c 2 t))) (readAt_whole (hs0_3 t) (iblk m c 3 t)))
      (readAt_whole (Memref.isWhole_whole cc0_scratch0) (prep m c))

end Cert.KernelIdeal.Hand

end
-- ==== Proof.Prep.lean ====
module

public import proofs.«01_k».proof.Proof.Quant
public import proofs.«01_k».proof.Proof.Tiles

/-! What the first point leaves in the codes' buffer, in the scales' buffer and in the scratch, element by element: the
quantised draft, its scales, the dequantised draft over the rotated verify activation. -/

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx
open Idealize.SL Idealize.SL.Sem

variable (m : (ℓ : Loc nD τ sig) → Buf (Elt Ideal) ℓ)

/-- The scales set so far: lane `g` holds group `g`'s scale once `g` is set. -/
theorem scalesUpTo_apply {M : Memref sig .tc .vmem S256x4096 .bf16} (hM : M.IsWhole) {x : Vec Ideal S256x4096 .bf16} {x0 : Act}
    (h : Same x x0) (r : Fin 256) (g : Fin 32) : ∀ n : ℕ, n ≤ 32 → g.val < n → scalesUpTo (F := Ideal) hM x n (ix2 r g) = scaleOf x0 r g
  | 0, _, hg => absurd hg (Nat.not_lt_zero _)
  | n + 1, hn, hg => by
    have hi : iota .tc S256x32 32 [1] iota_S256x32_d1_w32 (ix2 r g) = BitVec.ofNat 32 g.val :=
      iota_single_apply .tc S256x32 32 1 _ (ix2 r g)
    have hb : broadcastTo S256x32 (shapeCast S256x1 (k0_pay15 (rotG (F := Ideal) hM x n)) shapeCasts_S256x1_S256x1) broadcasts_S256x1_S256x32
        (ix2 r g) = k0_pay15 (rotG (F := Ideal) hM x n) (ix2 r 0) := by
      rw [shapeCast_self, spread_apply]
    have hs : scalesUpTo (F := Ideal) hM x (n + 1) (ix2 r g) = Scalar.select (IntOp.cmpi .eq (BitVec.ofNat 32 g.val) (BitVec.ofNat 32 n))
        (k0_pay15 (rotG (F := Ideal) hM x n) (ix2 r 0)) (scalesUpTo (F := Ideal) hM x n (ix2 r g)) := by
      rw [← hb, ← hi]
      rfl
    rw [hs]
    by_cases e : g.val = n
    · subst e
      rw [pay15_apply (fun r l => rotG_apply hM h g r l)]
      simp [Scalar.select, IntOp.cmpi]
    · have hne : ¬(BitVec.ofNat 32 g.val = BitVec.ofNat 32 n) := fun hh => e (by
        have := congrArg BitVec.toNat hh
        simp only [BitVec.toNat_ofNat] at this
        omega)
      rw [scalesUpTo_apply hM h r g n (by omega) (by omega)]
      unfold Scalar.select IntOp.cmpi
      rw [if_neg]
      show ¬BitVec.ofBool (BitVec.ofNat 32 g.val == BitVec.ofNat 32 n) = 1
      rw [beq_eq_false_iff_ne.mpr hne]
      decide

variable {m} {c : Dev nD} {x0 x1 : Act} (h0 : Same (iblk m c 0 t₀) x0) (h1 : Same (iblk m c 1 t₀) x1)

section Draft
include h0

/-- The scales that the first step writes are the quantiser's. -/
theorem prepScale_apply (r : Fin 256) (g : Fin 32) : prepScale m c (ix2 r g) = scaleOf x0 r g := by
  unfold prepScale outA_7
  refine (congrFun (read_whole_piece (d := ![256, 32]) VO0_7 _ (cover_outA_7 m c t₀ rfl) _ (pieces_7 m c t₀ rfl)) (ix2 r g)).trans ?_
  exact scalesUpTo_apply _ h0 r g 32 (le_refl _) g.isLt

/-- The codes that the first step writes are the quantiser's. -/
theorem prepCodes_apply (r : Fin 256) (g : Fin 32) (l : Fin 128) :
    prepCodes m c (ix2 r (col g l)) = Ideal.fptosi 8 (clipped x0 r g l) := by
  unfold prepCodes outA_6
  refine (congrFun (View.read_writes_eq_canon VO0_6 _ _ (cover_outA_6 m c t₀ rfl)) _).trans ?_
  rw [pieces_6]
  refine View.canon_ofFn_unit_eq_of_forall (Val := Elt Ideal) (e := .i8) (S := S256x4096) (fun k : Fin 32 => ![0, 128 * ((31 - k.val) % 32)]) S256x128.size (fun k => inbG (31 - k.val))
    (fun k => k0_pay17 (rotG (hs0_0 t₀) (iblk m c 0 t₀) (31 - k.val))) (ix2 r (col g l)) _ ⟨⟨31 - g.val, by omega⟩, fun a => ?_⟩ fun k x hx => ?_
  · match a with
    | ⟨0, _⟩ => exact ⟨Nat.zero_le _, by show r.val < 0 + 256; omega⟩
    | ⟨1, _⟩ =>
      show 128 * ((31 - (31 - g.val)) % 32) ≤ 128 * g.val + l.val ∧ 128 * g.val + l.val < 128 * ((31 - (31 - g.val)) % 32) + 128
      omega
  · have e0 : r.val = 0 + (x 0).val := hx 0
    have e1 : 128 * g.val + l.val = 128 * ((31 - k.val) % 32) + (x 1).val := hx 1
    have l1 : (x 1).val < 128 := (x 1).isLt
    have hk : 31 - k.val = g.val := by omega
    have hxe : x = ix2 r l := by
      rw [eq_ix2 x]
      exact congrArg₂ ix2 (Fin.ext (by omega)) (Fin.ext (by omega))
    show k0_pay17 (rotG (hs0_0 t₀) (iblk m c 0 t₀) (31 - k.val)) x = _
    rw [hk, hxe]
    exact pay17_apply (fun r l => rotG_apply (hs0_0 t₀) h0 g r l) r l

end Draft

/-- The pieces of the scratch at an element of row block `b` (draft 0, verify 1), group `g`: what group `g`'s piece of
    that block holds there. -/
theorem prep_apply (b : Fin 2) (r : Fin 256) (g : Fin 32) (l : Fin 128) (R : Fin 512) (hR : R.val = 256 * b.val + r.val) (v : EReal)
    (hv : ∀ k : Fin 64, k.val % 2 = b.val → 31 - k.val / 2 = g.val →
      (if k.val % 2 = 0 then k0_pay19 (F := Ideal) (rotG (hs0_0 t₀) (iblk m c 0 t₀) (31 - k.val / 2))
        else k0_pay20 had (grp (hs0_1 t₀) (iblk m c 1 t₀) (31 - k.val / 2))) (ix2 r l) = v) :
    prep m c (ix2 R (col g l)) = v := by
  unfold prep soutA
  refine (congrFun (View.read_writes_eq_canon VS0_0 _ _ (cover_soutA m c t₀ rfl)) _).trans ?_
  rw [pieces_S]
  refine View.canon_ofFn_unit_eq_of_forall (Val := Elt Ideal) (e := .bf16) (S := S512x4096) (fun k : Fin 64 => offS k.val) S256x128.size (fun k => inbS k.val)
    (fun k => if k.val % 2 = 0 then k0_pay19 (rotG (hs0_0 t₀) (iblk m c 0 t₀) (31 - k.val / 2))
        else k0_pay20 had (grp (hs0_1 t₀) (iblk m c 1 t₀) (31 - k.val / 2)))
    (ix2 R (col g l)) _ ⟨⟨2 * (31 - g.val) + b.val, by omega⟩, fun a => ?_⟩ fun k x hx => ?_
  · match a with
    | ⟨0, _⟩ =>
      show (if (2 * (31 - g.val) + b.val) % 2 = 0 then 0 else 256) ≤ R.val ∧ R.val < (if (2 * (31 - g.val) + b.val) % 2 = 0 then 0 else 256) + 256
      split <;> omega
    | ⟨1, _⟩ =>
      show 128 * ((31 - (2 * (31 - g.val) + b.val) / 2) % 32) ≤ 128 * g.val + l.val
        ∧ 128 * g.val + l.val < 128 * ((31 - (2 * (31 - g.val) + b.val) / 2) % 32) + 128
      omega
  · have e0 : R.val = (if k.val % 2 = 0 then 0 else 256) + (x 0).val := hx 0
    have e1 : 128 * g.val + l.val = 128 * ((31 - k.val / 2) % 32) + (x 1).val := hx 1
    have l0 : (x 0).val < 256 := (x 0).isLt
    have l1 : (x 1).val < 128 := (x 1).isLt
    have hk : 31 - k.val / 2 = g.val := by omega
    have hb : k.val % 2 = b.val := by split at e0 <;> omega
    have hr : (x 0).val = r.val := by split at e0 <;> omega
    have hxe : x = ix2 r l := by
      rw [eq_ix2 x]
      exact congrArg₂ ix2 (Fin.ext hr) (Fin.ext (by omega))
    rw [hxe]
    exact hv k hb hk

include h0 in
/-- The scratch's upper rows hold the dequantised draft. -/
theorem prep_draft (r : Fin 256) (g : Fin 32) (l : Fin 128) (R : Fin 512) (hR : R.val = r.val) :
    prep m c (ix2 R (col g l)) = clipped x0 r g l * scaleOf x0 r g := by
  refine prep_apply 0 r g l R (by simpa using hR) _ fun k hb hk => ?_
  rw [if_pos (show k.val % 2 = 0 from hb), hk]
  exact pay19_apply (fun r l => rotG_apply (hs0_0 t₀) h0 g r l) r l

include h1 in
/-- The scratch's lower rows hold the rotated verify activation. -/
theorem prep_verify (r : Fin 256) (g : Fin 32) (l : Fin 128) (R : Fin 512) (hR : R.val = 256 + r.val) :
    prep m c (ix2 R (col g l)) = rotated x1 r g l := by
  refine prep_apply 1 r g l R (by simpa using hR) _ fun k hb hk => ?_
  rw [if_neg (show ¬k.val % 2 = 0 by rw [hb]; decide), hk]
  exact pay20_apply (hs0_1 t₀) h1 g r l

end Cert.KernelIdeal.Hand

end
-- ==== Proof.Weights.lean ====
module

public import proofs.«01_k».proof.Proof.Prep

/-! The int4 weights. A packed byte holds two signed nibbles, the even row's in its low half and the odd row's in its high
half; a row's weight is its nibble times the scale of its group of 128 rows. What the kernel unpacks from a block of the packed
rows and what the reference unpacks from the whole array are this. -/

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx
open Idealize.SL Idealize.SL.Sem
open scoped BigOperators

/-- The nibble of the packed byte `w`: the low one for `b = 0`, the high one for `b = 1`, read as a signed 4-bit number and held
    in 32 bits. -/
def nib (b : Fin 2) (w : BitVec 8) : BitVec 32 :=
  ((w.setWidth 32) <<< (if b = 0 then 28#32 else 24#32)).sshiftRight' 28#32

/-- A nibble loses nothing when it is cut to four bits. -/
theorem nib_trunc (b : Fin 2) (w : BitVec 8) : ((nib b w).setWidth 4).toInt = (nib b w).toInt := by
  have key : ∀ (b : Fin 2) (n : Fin 256), ((nib b (BitVec.ofFin n)).setWidth 4).toInt = (nib b (BitVec.ofFin n)).toInt := by decide +kernel
  exact key b w.toFin

/-- The packed weights and their scales, as the reference takes them. -/
abbrev Packed := (⟨Cert.ReferenceIdeal.S2048x14336, .i8⟩ : BufTy).Contents (Elt Ideal)
abbrev WScale := (⟨Cert.ReferenceIdeal.S32x14336, .f32⟩ : BufTy).Contents (Elt Ideal)

/-- The group of packed row `k`: 64 packed rows are 128 rows. -/
def pgrp (k : Fin 2048) : Fin 32 := ⟨k.val / 64, by omega⟩

/-- The weight at row `2 k + b` and column `n`. -/
def weight (x2 : Packed) (x3 : WScale) (b : Fin 2) (k : Fin 2048) (n : Fin 14336) : EReal :=
  (((nib b (x2 (ix2 k n))).toInt : ℝ) : EReal) * x3 (ix2 (pgrp k) n)

/-- Row `2 k + b` of the unpacked rows. -/
def row (b : Fin 2) (k : Fin 2048) : Fin 4096 := ⟨2 * k.val + b.val, by omega⟩

/-- The kernel's unpacked and scaled block of weights. -/
def wBlock (v3 : Vec Ideal S2048x1024 .i8) (v18 : Vec Ideal S32x1024 .f32) : FVec Ideal S4096x1024 .bf16 :=
  shapeCast S4096x1024 (mulf (shapeCast S32x128x1024 (sitofp .bf16 (trunci 4 (shapeCast S4096x1024
    (concatenate S2048x2x1024 1
      [⟨S2048x1x1024, shapeCast S2048x1x1024 (shrsi (shli (extui 32 v3 natLt_8_32) (broadcast S2048x1024 28#32)) (broadcast S2048x1024 28#32))
          shapeCasts_S2048x1024_S2048x1x1024⟩,
       ⟨S2048x1x1024, shapeCast S2048x1x1024 (shrsi (shli (extui 32 v3 natLt_8_32) (broadcast S2048x1024 24#32)) (broadcast S2048x1024 28#32))
          shapeCasts_S2048x1024_S2048x1x1024⟩]
      concatenates_S2048x1x1024_S2048x1x1024_S2048x2x1024_d1)
    shapeCasts_S2048x2x1024_S4096x1024) natLt_4_32)) shapeCasts_S4096x1024_S32x128x1024)
    (broadcastTo S32x128x1024 (shapeCast S32x1x1024 (truncf .bf16 v18 bitsLt_bf16_f32) shapeCasts_S32x1024_S32x1x1024)
      broadcasts_S32x1x1024_S32x128x1024)) shapeCasts_S32x128x1024_S4096x1024

/-- One half of the block before the halves are interleaved. -/
theorem half_apply (y : IVec S2048x1024 32) (k : Fin 2048) (q : Fin 1024) :
    shapeCast S2048x1x1024 y shapeCasts_S2048x1024_S2048x1x1024 (ix3 k 0 q) = y (ix2 k q) :=
  shapeCast_apply y _ (ix3 k 0 q) (ix2 k q) (by
    rewrite [Shape.rowMajor_val_two, Shape.rowMajor_val_three]
    show k.val * 1024 + q.val = (k.val * 1 + 0) * 1024 + q.val
    omega)

/-- Two halves interleaved: packed row `k` of the first half, then packed row `k` of the second. -/
theorem pair_apply (y0 y1 : IVec S2048x1x1024 32) (b : Fin 2) (k : Fin 2048) (q : Fin 1024) :
    concatenate S2048x2x1024 1 [⟨S2048x1x1024, y0⟩, ⟨S2048x1x1024, y1⟩] concatenates_S2048x1x1024_S2048x1x1024_S2048x2x1024_d1 (ix3 k b q)
      = if b = 0 then y0 (ix3 k 0 q) else y1 (ix3 k 0 q) := by
  by_cases h : b = 0
  · rw [if_pos h]
    subst h
    exact concatenate_pair_apply_left (1 : Fin 3) y0 y1 concatenates_S2048x1x1024_S2048x1x1024_S2048x2x1024_d1 (ix3 k (0 : Fin 2) q) rfl
      (ix3 k (0 : Fin 1) q)
      (fun a => match a with
        | ⟨0, _⟩ => rfl
        | ⟨1, _⟩ => rfl
        | ⟨2, _⟩ => rfl)
  · rw [if_neg h]
    have h1 : b = 1 := by omega
    subst h1
    exact concatenate_pair_apply_right (1 : Fin 3) y0 y1 concatenates_S2048x1x1024_S2048x1x1024_S2048x2x1024_d1 (ix3 k (1 : Fin 2) q) rfl rfl
      (ix3 k (0 : Fin 1) q)
      (fun a => match a with
        | ⟨0, _⟩ => fun _ => rfl
        | ⟨1, _⟩ => fun h => absurd rfl h
        | ⟨2, _⟩ => fun _ => rfl) rfl

/-- The interleaved halves at packed row `k`, half `b`. -/
theorem both_apply (v3 : Vec Ideal S2048x1024 .i8) (b : Fin 2) (k : Fin 2048) (q : Fin 1024) :
    concatenate S2048x2x1024 1
      [⟨S2048x1x1024, shapeCast S2048x1x1024 (shrsi (shli (extui 32 v3 natLt_8_32) (broadcast S2048x1024 28#32)) (broadcast S2048x1024 28#32))
          shapeCasts_S2048x1024_S2048x1x1024⟩,
       ⟨S2048x1x1024, shapeCast S2048x1x1024 (shrsi (shli (extui 32 v3 natLt_8_32) (broadcast S2048x1024 24#32)) (broadcast S2048x1024 28#32))
          shapeCasts_S2048x1024_S2048x1x1024⟩]
      concatenates_S2048x1x1024_S2048x1x1024_S2048x2x1024_d1 (ix3 k b q) = nib b (v3 (ix2 k q)) := by
  rw [pair_apply, half_apply, half_apply]
  by_cases h : b = 0
  · rw [if_pos h]
    subst h
    rfl
  · rw [if_neg h]
    have h1 : b = 1 := by omega
    subst h1
    rfl

/-- The kernel's block of weights at row `2 k + b`. -/
theorem wBlock_apply (v3 : Vec Ideal S2048x1024 .i8) (v18 : Vec Ideal S32x1024 .f32) (b : Fin 2) (k : Fin 2048) (q : Fin 1024) :
    wBlock v3 v18 (ix2 (row b k) q) = (((nib b (v3 (ix2 k q))).toInt : ℝ) : EReal) * v18 (ix2 (pgrp k) q) := by
  have hr : (row b k).val = 2 * k.val + b.val := rfl
  unfold wBlock
  rw [shapeCast_apply _ _ _ (ix3 (pgrp k) (⟨(2 * k.val + b.val) % 128, Nat.mod_lt _ (by omega)⟩ : Fin 128) q) (by
    rewrite [Shape.rowMajor_val_three, Shape.rowMajor_val_two]
    show (k.val / 64 * 128 + (2 * k.val + b.val) % 128) * 1024 + q.val = (2 * k.val + b.val) * 1024 + q.val
    omega), mulf_apply]
  refine congrArg₂ (fun p s : EReal => p * s) ?_ ?_
  · rw [shapeCast_apply _ _ _ (ix2 (row b k) q) (by
      rewrite [Shape.rowMajor_val_two, Shape.rowMajor_val_three]
      show (2 * k.val + b.val) * 1024 + q.val = (k.val / 64 * 128 + (2 * k.val + b.val) % 128) * 1024 + q.val
      omega)]
    have e := shapeCast_apply (concatenate S2048x2x1024 1
      [⟨S2048x1x1024, shapeCast S2048x1x1024 (shrsi (shli (extui 32 v3 natLt_8_32) (broadcast S2048x1024 28#32)) (broadcast S2048x1024 28#32))
          shapeCasts_S2048x1024_S2048x1x1024⟩,
       ⟨S2048x1x1024, shapeCast S2048x1x1024 (shrsi (shli (extui 32 v3 natLt_8_32) (broadcast S2048x1024 24#32)) (broadcast S2048x1024 28#32))
          shapeCasts_S2048x1024_S2048x1x1024⟩]
      concatenates_S2048x1x1024_S2048x1x1024_S2048x2x1024_d1) shapeCasts_S2048x2x1024_S4096x1024 (ix2 (row b k) q) (ix3 k b q) (by
        rewrite [Shape.rowMajor_val_three, Shape.rowMajor_val_two]
        show (k.val * 2 + b.val) * 1024 + q.val = (2 * k.val + b.val) * 1024 + q.val
        omega)
    rw [both_apply] at e
    revert e
    generalize shapeCast S4096x1024 _ _ = z
    intro e
    show ((((z (ix2 (row b k) q)).setWidth 4).toInt : ℝ) : EReal) = _
    rw [e, nib_trunc]
  · rw [broadcastTo_apply _ _ _ (ix3 (pgrp k) 0 q) (fun a => match a with
      | ⟨0, _⟩ => rfl
      | ⟨1, _⟩ => rfl
      | ⟨2, _⟩ => rfl),
      shapeCast_apply _ _ _ (ix2 (pgrp k) q) (by
        rewrite [Shape.rowMajor_val_two, Shape.rowMajor_val_three]
        show (pgrp k).val * 1024 + q.val = ((pgrp k).val * 1 + 0) * 1024 + q.val
        omega)]
    rfl

/-- The rows are the even ones and the odd ones. -/
theorem sum_rows (f : Fin 4096 → EReal) : ∑ c : Fin 4096, f c = ∑ k : Fin 2048, f (row 0 k) + ∑ k : Fin 2048, f (row 1 k) := by
  rw [← Finset.sum_add_distrib, ← (finProdFinEquiv (m := 2048) (n := 2)).sum_comp, Fintype.sum_prod_type]
  refine Finset.sum_congr rfl fun k _ => ?_
  rw [Fin.sum_univ_two]
  refine congrArg₂ (fun p s : EReal => p + s) (congrArg f (Fin.ext ?_)) (congrArg f (Fin.ext ?_))
  · show 0 + 2 * k.val = 2 * k.val + 0; omega
  · show 1 + 2 * k.val = 2 * k.val + 1; omega

/-- The product of one point: the prepared activation times the block of weights, summed over the packed rows. -/
theorem pay5_apply (v3 : Vec Ideal S2048x1024 .i8) (v18 : Vec Ideal S32x1024 .f32) (P : FVec Ideal S512x4096 .bf16) (R : Fin 512) (q : Fin 1024) :
    k0_pay5 (F := Ideal) v3 v18 P (ix2 R q) =
      ∑ k : Fin 2048, P (ix2 R (row 0 k)) * ((((nib 0 (v3 (ix2 k q))).toInt : ℝ) : EReal) * v18 (ix2 (pgrp k) q))
      + ∑ k : Fin 2048, P (ix2 R (row 1 k)) * ((((nib 1 (v3 (ix2 k q))).toInt : ℝ) : EReal) * v18 (ix2 (pgrp k) q)) := by
  have e : k0_pay5 (F := Ideal) v3 v18 P (ix2 R q) = matmul dot_S512x4096_S4096x1024_S512x1024_1_0_0_1_n_n none P (wBlock v3 v18)
      (constant (F := Ideal) S512x1024 .f32 0x00000000#32) (ix2 R q) := by
    unfold k0_pay5 wBlock
    rfl
  rw [e]
  refine (Ideal.matmul_plain_apply (M := 512) (K := 4096) (N := 1024) none P (wBlock v3 v18)
    (constant (F := Ideal) S512x1024 .f32 0x00000000#32) R q).trans ?_
  rw [show constant (F := Ideal) S512x1024 .f32 0x00000000#32 (ix2 R q) = (0 : EReal) from Ideal.ofBits_zero_f32, zero_add]
  rw [sum_rows]
  simp only [wBlock_apply]

section Reference
open Cert.ReferenceIdeal Cert.ReferenceIdeal.Read

/-- The reference's low-half weights. -/
theorem ref_v37 (x2 : Packed) (x3 : WScale) (k : Fin 2048) (n : Fin 14336) :
    val_main_v37 (F := Ideal) x2 x3 (ix2 k n) = weight x2 x3 0 k n := by
  have e : idx_main_v37 (ix2 k n) = ix3 (pgrp k) (⟨k.val % 64, Nat.mod_lt _ (by omega)⟩ : Fin 64) n := by
    funext a
    apply Fin.ext
    match a with
    | ⟨0, _⟩ => show (k.val * 14336 + n.val) / 917504 = k.val / 64; omega
    | ⟨1, _⟩ => show (k.val * 14336 + n.val) / 14336 % 64 = k.val % 64; omega
    | ⟨2, _⟩ => show (k.val * 14336 + n.val) % 14336 = n.val; omega
  have e' : idx_main_v34 (ix3 (pgrp k) (⟨k.val % 64, Nat.mod_lt _ (by omega)⟩ : Fin 64) n) = ix2 k n := by
    funext a
    apply Fin.ext
    match a with
    | ⟨0, _⟩ => show ((k.val / 64 * 64 + k.val % 64) * 14336 + n.val) / 14336 = k.val; omega
    | ⟨1, _⟩ => show ((k.val / 64 * 64 + k.val % 64) * 14336 + n.val) % 14336 = n.val; omega
  rw [val_main_v37_apply, e, val_main_v36_apply, val_main_v34_apply, e', val_main_v33_apply, val_main_v26_apply, val_main_v24_apply,
    val_main_v22_apply, val_main_v23_apply, val_main_v25_apply, val_main_v35_apply, val_main_v32_apply, val_main_v31_apply,
    show idx_main_v32 (idx_main_v35 (ix3 (pgrp k) (⟨k.val % 64, Nat.mod_lt _ (by omega)⟩ : Fin 64) n)) = ix2 (pgrp k) n from eq_ix2 _]
  rfl

/-- The reference's high-half weights. -/
theorem ref_v42 (x2 : Packed) (x3 : WScale) (k : Fin 2048) (n : Fin 14336) :
    val_main_v42 (F := Ideal) x2 x3 (ix2 k n) = weight x2 x3 1 k n := by
  have e : idx_main_v42 (ix2 k n) = ix3 (pgrp k) (⟨k.val % 64, Nat.mod_lt _ (by omega)⟩ : Fin 64) n := by
    funext a
    apply Fin.ext
    match a with
    | ⟨0, _⟩ => show (k.val * 14336 + n.val) / 917504 = k.val / 64; omega
    | ⟨1, _⟩ => show (k.val * 14336 + n.val) / 14336 % 64 = k.val % 64; omega
    | ⟨2, _⟩ => show (k.val * 14336 + n.val) % 14336 = n.val; omega
  have e' : idx_main_v39 (ix3 (pgrp k) (⟨k.val % 64, Nat.mod_lt _ (by omega)⟩ : Fin 64) n) = ix2 k n := by
    funext a
    apply Fin.ext
    match a with
    | ⟨0, _⟩ => show ((k.val / 64 * 64 + k.val % 64) * 14336 + n.val) / 14336 = k.val; omega
    | ⟨1, _⟩ => show ((k.val / 64 * 64 + k.val % 64) * 14336 + n.val) % 14336 = n.val; omega
  rw [val_main_v42_apply, e, val_main_v41_apply, val_main_v39_apply, e', val_main_v38_apply, val_main_v30_apply, val_main_v28_apply,
    val_main_v22_apply, val_main_v27_apply, val_main_v29_apply, val_main_v40_apply, val_main_v32_apply, val_main_v31_apply,
    show idx_main_v32 (idx_main_v40 (ix3 (pgrp k) (⟨k.val % 64, Nat.mod_lt _ (by omega)⟩ : Fin 64) n)) = ix2 (pgrp k) n from eq_ix2 _]
  rfl

end Reference

end Cert.KernelIdeal.Hand

end
-- ==== Proof.Prod.lean ====
module

public import proofs.«01_k».proof.Proof.Weights

/-! The product. Row `r` of the first result is the dequantised draft's row times the weights, row `r` of the second is the
rotated verify activation's row times the weights. The kernel's two stored blocks and the reference's two results are both
this; the reference sums the even rows and the odd rows apart, the kernel in one product. -/

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx
open Idealize.SL Idealize.SL.Sem
open scoped BigOperators

/-- The group and the lane of a column. -/
def grpOf (x : Fin 4096) : Fin 32 := ⟨x.val / 128, by omega⟩
/-- The lane of a column in its group. -/
def laneOf (x : Fin 4096) : Fin 128 := ⟨x.val % 128, Nat.mod_lt _ (by omega)⟩

/-- A column is its lane of its group. -/
theorem col_grp_lane (x : Fin 4096) : col (grpOf x) (laneOf x) = x :=
  Fin.ext (by show 128 * (x.val / 128) + x.val % 128 = x.val; omega)

/-- The dequantised draft at row `r` and column `x`. -/
def draft (x0 : Act) (r : Fin 256) (x : Fin 4096) : EReal := clipped x0 r (grpOf x) (laneOf x) * scaleOf x0 r (grpOf x)

/-- The rotated verify activation at row `r` and column `x`. -/
def verify (x1 : Act) (r : Fin 256) (x : Fin 4096) : EReal := rotated x1 r (grpOf x) (laneOf x)

/-- A row `A` times column `n` of the weights, summed over the packed rows. -/
def prodOf (A : Fin 4096 → EReal) (x2 : Packed) (x3 : WScale) (n : Fin 14336) : EReal :=
  ∑ k : Fin 2048, A (row 0 k) * weight x2 x3 0 k n + ∑ k : Fin 2048, A (row 1 k) * weight x2 x3 1 k n

section Reference
open Cert.ReferenceIdeal Cert.ReferenceIdeal.Read

/-- The even columns of the reference's dequantised draft. -/
theorem ref_v68 (x0 : Act) (r : Fin 256) (k : Fin 2048) : val_main_v68 (F := Ideal) x0 (ix2 r k) = draft x0 r (row 0 k) := by
  have e : idx_main_v66 (idx_main_v67 (idx_main_v68 (ix2 r k))) = ix5 0 r (grpOf (row 0 k)) (⟨k.val % 64, Nat.mod_lt _ (by omega)⟩ : Fin 64) 0 := by
    have hr := r.isLt
    have hk := k.isLt
    have a0 : (r.val * 2048 + k.val) / 2048 % 256 = r.val := by omega
    have a1 : (r.val * 2048 + k.val) / 64 % 32 = k.val / 64 := by omega
    have a2 : (r.val * 2048 + k.val) % 64 = k.val % 64 := by omega
    have a3 : (2 * k.val + 0) / 128 = k.val / 64 := by omega
    funext a
    apply Fin.ext
    match a with
    | ⟨0, _⟩ => rfl
    | ⟨1, _⟩ =>
      show (((0 * 256 + (r.val * 2048 + k.val) / 2048 % 256) * 32 + (r.val * 2048 + k.val) / 64 % 32) * 64 + (r.val * 2048 + k.val) % 64) / 2048 % 256 = r.val
      rw [a0, a1, a2]; omega
    | ⟨2, _⟩ =>
      show (((0 * 256 + (r.val * 2048 + k.val) / 2048 % 256) * 32 + (r.val * 2048 + k.val) / 64 % 32) * 64 + (r.val * 2048 + k.val) % 64) / 64 % 32 = (2 * k.val + 0) / 128
      rw [a0, a1, a2, a3]; omega
    | ⟨3, _⟩ =>
      show (((0 * 256 + (r.val * 2048 + k.val) / 2048 % 256) * 32 + (r.val * 2048 + k.val) / 64 % 32) * 64 + (r.val * 2048 + k.val) % 64) / 1 % 64 = k.val % 64
      rw [a0, a1, a2]; omega
    | ⟨4, _⟩ => rfl
  rw [val_main_v68_apply, val_main_v67_apply, val_main_v66_apply, e]
  exact ref_v65 x0 r _ _ 0 (laneOf (row 0 k)) (by show (2 * k.val + 0) % 128 = 2 * (k.val % 64) + 0; omega)

/-- The odd columns of the reference's dequantised draft. -/
theorem ref_v71 (x0 : Act) (r : Fin 256) (k : Fin 2048) : val_main_v71 (F := Ideal) x0 (ix2 r k) = draft x0 r (row 1 k) := by
  have e : idx_main_v69 (idx_main_v70 (idx_main_v71 (ix2 r k))) = ix5 0 r (grpOf (row 1 k)) (⟨k.val % 64, Nat.mod_lt _ (by omega)⟩ : Fin 64) 1 := by
    have hr := r.isLt
    have hk := k.isLt
    have a0 : (r.val * 2048 + k.val) / 2048 % 256 = r.val := by omega
    have a1 : (r.val * 2048 + k.val) / 64 % 32 = k.val / 64 := by omega
    have a2 : (r.val * 2048 + k.val) % 64 = k.val % 64 := by omega
    have a3 : (2 * k.val + 1) / 128 = k.val / 64 := by omega
    funext a
    apply Fin.ext
    match a with
    | ⟨0, _⟩ => rfl
    | ⟨1, _⟩ =>
      show (((0 * 256 + (r.val * 2048 + k.val) / 2048 % 256) * 32 + (r.val * 2048 + k.val) / 64 % 32) * 64 + (r.val * 2048 + k.val) % 64) / 2048 % 256 = r.val
      rw [a0, a1, a2]; omega
    | ⟨2, _⟩ =>
      show (((0 * 256 + (r.val * 2048 + k.val) / 2048 % 256) * 32 + (r.val * 2048 + k.val) / 64 % 32) * 64 + (r.val * 2048 + k.val) % 64) / 64 % 32 = (2 * k.val + 1) / 128
      rw [a0, a1, a2, a3]; omega
    | ⟨3, _⟩ =>
      show (((0 * 256 + (r.val * 2048 + k.val) / 2048 % 256) * 32 + (r.val * 2048 + k.val) / 64 % 32) * 64 + (r.val * 2048 + k.val) % 64) / 1 % 64 = k.val % 64
      rw [a0, a1, a2]; omega
    | ⟨4, _⟩ => rfl
  rw [val_main_v71_apply, val_main_v70_apply, val_main_v69_apply, e]
  exact ref_v65 x0 r _ _ 1 (laneOf (row 1 k)) (by show (2 * k.val + 1) % 128 = 2 * (k.val % 64) + 1; omega)

/-- The reference's rotated verify activation, its columns in pairs. -/
theorem ref_v73 (x1 : Act) (r : Fin 256) (k : Fin 2048) (b : Fin 2) :
    val_main_v73 (F := Ideal) x1 (ix3 r k b) = verify x1 r (row b k) := by
  have e : idx_main_v73 (ix3 r k b) = ix3 0 r (col (grpOf (row b k)) (laneOf (row b k))) := by
    rw [col_grp_lane]
    funext a
    apply Fin.ext
    match a with
    | ⟨0, _⟩ => rfl
    | ⟨1, _⟩ => show ((r.val * 2048 + k.val) * 2 + b.val) / 4096 % 256 = r.val; omega
    | ⟨2, _⟩ => show ((r.val * 2048 + k.val) * 2 + b.val) % 4096 = 2 * k.val + b.val; omega
  rw [val_main_v73_apply, e, val_main_v72_apply, ref_v21]
  exact ref_v17 x1 r (grpOf (row b k)) (laneOf (row b k))

/-- The reference's low verify operand: the even columns. -/
theorem ref_v75 (x1 : Act) (r : Fin 256) (k : Fin 2048) : val_main_v75 (F := Ideal) x1 (ix2 r k) = verify x1 r (row 0 k) := by
  have e : idx_main_v74 (idx_main_v75 (ix2 r k)) = ix3 r k (0 : Fin 2) := by
    funext a
    apply Fin.ext
    match a with
    | ⟨0, _⟩ => show (r.val * 2048 + k.val) / 2048 = r.val; omega
    | ⟨1, _⟩ => show (r.val * 2048 + k.val) / 1 % 2048 = k.val; omega
    | ⟨2, _⟩ => rfl
  rw [val_main_v75_apply, val_main_v74_apply, e, ref_v73]

/-- The reference's high verify operand: the odd columns. -/
theorem ref_v78 (x1 : Act) (r : Fin 256) (k : Fin 2048) : val_main_v78 (F := Ideal) x1 (ix2 r k) = verify x1 r (row 1 k) := by
  have e : idx_main_v77 (idx_main_v78 (ix2 r k)) = ix3 r k (1 : Fin 2) := by
    funext a
    apply Fin.ext
    match a with
    | ⟨0, _⟩ => show (r.val * 2048 + k.val) / 2048 = r.val; omega
    | ⟨1, _⟩ => show (r.val * 2048 + k.val) / 1 % 2048 = k.val; omega
    | ⟨2, _⟩ => rfl
  rw [val_main_v78_apply, val_main_v77_apply, e, ref_v73]

/-- One array of 256 rows over another, at a row of the first and at a row of the second. -/
theorem stack_top (y0 y1 : Vec Ideal Cert.ReferenceIdeal.S256x2048 .bf16)
    (h : Shape.Concatenates [Cert.ReferenceIdeal.S256x2048, Cert.ReferenceIdeal.S256x2048] Cert.ReferenceIdeal.S512x2048 0)
    (r : Fin 256) (k : Fin 2048) (R : Fin 512) (hR : R.val = r.val) :
    concatenate Cert.ReferenceIdeal.S512x2048 0 [⟨Cert.ReferenceIdeal.S256x2048, y0⟩, ⟨Cert.ReferenceIdeal.S256x2048, y1⟩] h (ix2 R k)
      = y0 (ix2 r k) :=
  concatenate_pair_apply_left (0 : Fin 2) y0 y1 h (ix2 R k) rfl (ix2 r k)
    (fun a => match a with
      | ⟨0, _⟩ => hR.symm
      | ⟨1, _⟩ => rfl)

/-- The lower half of two blocks of 256 rows, stacked. -/
theorem stack_bottom (y0 y1 : Vec Ideal Cert.ReferenceIdeal.S256x2048 .bf16)
    (h : Shape.Concatenates [Cert.ReferenceIdeal.S256x2048, Cert.ReferenceIdeal.S256x2048] Cert.ReferenceIdeal.S512x2048 0)
    (r : Fin 256) (k : Fin 2048) (R : Fin 512) (hR : R.val = 256 + r.val) :
    concatenate Cert.ReferenceIdeal.S512x2048 0 [⟨Cert.ReferenceIdeal.S256x2048, y0⟩, ⟨Cert.ReferenceIdeal.S256x2048, y1⟩] h (ix2 R k)
      = y1 (ix2 r k) :=
  concatenate_pair_apply_right (0 : Fin 2) y0 y1 h (ix2 R k) rfl rfl (ix2 r k)
    (fun a => match a with
      | ⟨0, _⟩ => fun h => absurd rfl h
      | ⟨1, _⟩ => fun _ => rfl) (by show r.val + 256 = R.val; omega)

/-- The reference's product at row `R`, once its two activations' row is known. -/
theorem ref_v82 (x0 x1 : Act) (x2 : Packed) (x3 : WScale) (R : Fin 512) (n : Fin 14336) (A : Fin 4096 → EReal)
    (hlo : ∀ k, val_main_v76 (F := Ideal) x0 x1 (ix2 R k) = A (row 0 k)) (hhi : ∀ k, val_main_v79 (F := Ideal) x0 x1 (ix2 R k) = A (row 1 k)) :
    val_main_v83 (F := Ideal) x0 x1 x2 x3 (ix2 R n) = prodOf A x2 x3 n := by
  rw [val_main_v83_apply, val_main_v82_apply, val_main_v80_apply, val_main_v81_apply]
  show (_ + _ : EReal) = _
  unfold prodOf
  refine congrArg₂ (fun p s : EReal => p + s) (Finset.sum_congr rfl fun k _ => ?_) (Finset.sum_congr rfl fun k _ => ?_)
  · rw [show lidx_main_v80 (ix2 R n) k = ix2 R k from eq_ix2 _, show ridx_main_v80 (ix2 R n) k = ix2 k n from eq_ix2 _, hlo, ref_v37]
  · rw [show lidx_main_v81 (ix2 R n) k = ix2 R k from eq_ix2 _, show ridx_main_v81 (ix2 R n) k = ix2 k n from eq_ix2 _, hhi, ref_v42]

/-- The reference's first result. -/
theorem ref_v85 (x0 x1 : Act) (x2 : Packed) (x3 : WScale) (r : Fin 256) (n : Fin 14336) :
    val_main_v85 (F := Ideal) x0 x1 x2 x3 (ix3 0 r n) = prodOf (draft x0 r) x2 x3 n := by
  have e : idx_main_v84 (idx_main_v85 (ix3 0 r n)) = ix2 (⟨r.val, by omega⟩ : Fin 512) n := by
    funext a
    apply Fin.ext
    match a with
    | ⟨0, _⟩ => show ((0 * 256 + r.val) * 14336 + n.val) / 14336 = r.val; omega
    | ⟨1, _⟩ => show ((0 * 256 + r.val) * 14336 + n.val) % 14336 = n.val; omega
  rw [val_main_v85_apply, val_main_v84_apply, e]
  refine ref_v82 x0 x1 x2 x3 _ n (draft x0 r) (fun k => ?_) (fun k => ?_)
  · unfold val_main_v76
    rw [stack_top _ _ _ r k _ rfl, ref_v68]
  · unfold val_main_v79
    rw [stack_top _ _ _ r k _ rfl, ref_v71]

/-- The reference's second result. -/
theorem ref_v87 (x0 x1 : Act) (x2 : Packed) (x3 : WScale) (r : Fin 256) (n : Fin 14336) :
    val_main_v87 (F := Ideal) x0 x1 x2 x3 (ix3 0 r n) = prodOf (verify x1 r) x2 x3 n := by
  have e : idx_main_v86 (idx_main_v87 (ix3 0 r n)) = ix2 (⟨256 + r.val, by omega⟩ : Fin 512) n := by
    funext a
    apply Fin.ext
    match a with
    | ⟨0, _⟩ => show 256 + ((0 * 256 + r.val) * 14336 + n.val) / 14336 = 256 + r.val; omega
    | ⟨1, _⟩ => show ((0 * 256 + r.val) * 14336 + n.val) % 14336 = n.val; omega
  rw [val_main_v87_apply, val_main_v86_apply, e]
  refine ref_v82 x0 x1 x2 x3 _ n (verify x1 r) (fun k => ?_) (fun k => ?_)
  · unfold val_main_v76
    rw [stack_bottom _ _ _ r k _ rfl, ref_v75]
  · unfold val_main_v79
    rw [stack_bottom _ _ _ r k _ rfl, ref_v78]

end Reference

/-- The kernel's product at row `R`, once the row of its activation and its blocks of the weights are known. -/
theorem pay5_prod {v3 : Vec Ideal S2048x1024 .i8} {v18 : Vec Ideal S32x1024 .f32} {P : FVec Ideal S512x4096 .bf16} {x2 : Packed} {x3 : WScale}
    {R : Fin 512} {q : Fin 1024} {n : Fin 14336} {A : Fin 4096 → EReal} (h2 : ∀ k, v3 (ix2 k q) = x2 (ix2 k n))
    (h3 : ∀ g, v18 (ix2 g q) = x3 (ix2 g n)) (hP : ∀ x, P (ix2 R x) = A x) :
    k0_pay5 (F := Ideal) v3 v18 P (ix2 R q) = prodOf A x2 x3 n := by
  rw [pay5_apply]
  simp only [h2, h3, hP]
  rfl

variable {m : (ℓ : Loc nD τ sig) → Buf (Elt Ideal) ℓ} {c : Dev nD} {x0 x1 : Act} (h0 : Same (iblk m c 0 t₀) x0) (h1 : Same (iblk m c 1 t₀) x1)
  {v3 : Vec Ideal S2048x1024 .i8} {v18 : Vec Ideal S32x1024 .f32} {x2 : Packed} {x3 : WScale} {q : Fin 1024} {n : Fin 14336}
  (h2 : ∀ k, v3 (ix2 k q) = x2 (ix2 k n)) (h3 : ∀ g, v18 (ix2 g q) = x3 (ix2 g n))
include h2 h3

section Draft
include h0

/-- The block that a point stores of the first result. -/
theorem pay6_apply (r : Fin 256) : k0_pay6 (F := Ideal) v3 v18 (prep m c) (ix2 r q) = prodOf (draft x0 r) x2 x3 n := by
  unfold k0_pay6
  refine (extractStridedSlice_apply _ _ _ _ (ix2 (⟨r.val, by omega⟩ : Fin 512) q) (fun a => match a with
    | ⟨0, _⟩ => by show r.val = 0 + r.val; omega
    | ⟨1, _⟩ => by show q.val = 0 + q.val; omega)).trans ?_
  refine pay5_prod h2 h3 fun x => ?_
  have e := prep_draft h0 r (grpOf x) (laneOf x) ⟨r.val, by omega⟩ rfl
  rwa [col_grp_lane] at e

end Draft

section Verify
include h1

/-- The block that a point stores of the second result. -/
theorem pay7_apply (r : Fin 256) : k0_pay7 (F := Ideal) v3 v18 (prep m c) (ix2 r q) = prodOf (verify x1 r) x2 x3 n := by
  unfold k0_pay7
  refine (extractStridedSlice_apply _ _ _ _ (ix2 (⟨256 + r.val, by omega⟩ : Fin 512) q) (fun a => match a with
    | ⟨0, _⟩ => rfl
    | ⟨1, _⟩ => by show q.val = 0 + q.val; omega)).trans ?_
  refine pay5_prod h2 h3 fun x => ?_
  have e := prep_verify h1 r (grpOf x) (laneOf x) ⟨256 + r.val, by omega⟩ rfl
  rwa [col_grp_lane] at e

end Verify

end Cert.KernelIdeal.Hand

end
-- ==== Proof.Arrays.lean ====
module

public import proofs.«01_k».proof.Proof.Prod
public import Idealize.ShloMosaic.Lib.Pipeline.ValueKit.Geometry

/-! The arrays. The blocks that the kernel reads, as parts of its arguments, and what its four result arrays hold at the end:
the two products, the codes and the scales. -/

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)

variable (m : (ℓ : Loc nD τ sig) → Buf (Elt Ideal) ℓ) (c : Dev nD)

/-- The four arguments of core `c`. -/
abbrev arg0 : Act := m ((c : Thread nD τ).loc main_arg0)
abbrev arg1 : Act := m ((c : Thread nD τ).loc main_arg1)
abbrev arg2 : Packed := m ((c : Thread nD τ).loc main_arg2)
abbrev arg3 : WScale := m ((c : Thread nD τ).loc main_arg3)

/-! ## Where the blocks lie -/

/-- The block that step `t` reads or writes, window by window: the activations whole, the weights and the products one tile of columns a step. -/
theorem index_0 : ∀ t : Fin cfg0.N, win0_0.index t = ![0, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, t.val] := (by decide +kernel : ∀ t : Fin grid0.N, _)
theorem index_3 : ∀ t : Fin cfg0.N, win0_3.index t = ![0, t.val] := (by decide +kernel : ∀ t : Fin grid0.N, _)
theorem index_4 : ∀ t : Fin cfg0.N, win0_4.index t = ![0, t.val] := (by decide +kernel : ∀ t : Fin grid0.N, _)
theorem index_5 : ∀ t : Fin cfg0.N, win0_5.index t = ![0, t.val] := (by decide +kernel : ∀ t : Fin grid0.N, _)

/-- Column `q` of tile `t` is column `1024 t + q` of the whole. -/
def tcol (t : Fin cfg0.N) (q : Fin 1024) : Fin 14336 :=
  ⟨1024 * t.val + q.val, by have : t.val < 14 := lt_of_lt_of_eq t.isLt N_0; omega⟩

/-! ## The blocks that are read -/

/-- The draft activation as the kernel finds it is the argument without its leading axis. -/
theorem V_v0 : V m c main_v0 = shapeCast S256x4096 (arg0 m c) shapeCasts_S1x256x4096_S256x4096 := by
  show StableHlo.after hostOps0 (fun b => m (c, b)) (Proc.devRef .tc main_v0) = _
  after_results
  rfl

theorem V_v1 : V m c main_v1 = shapeCast S256x4096 (arg1 m c) shapeCasts_S1x256x4096_S256x4096 := by
  show StableHlo.after hostOps0 (fun b => m (c, b)) (Proc.devRef .tc main_v1) = _
  after_results
  rfl

/-- An activation without its leading axis, at an index. -/
theorem flat_apply (x : Act) (r : Fin 256) (k : Fin 4096) :
    shapeCast S256x4096 x shapeCasts_S1x256x4096_S256x4096 (ix2 r k) = x (ix3 0 r k) :=
  shapeCast_apply x _ (ix2 r k) (ix3 0 r k) (by
    rewrite [Shape.rowMajor_val_three, Shape.rowMajor_val_two]
    show (0 * 256 + r.val) * 4096 + k.val = r.val * 4096 + k.val
    omega)

/-- The step's first activation block is the first argument. -/
theorem same_0 : Same (iblk m c 0 t₀) (arg0 m c) := by
  intro r k
  have e : ((cfg0.win 0).blk t₀).view.emb (ix2 r k) = (ix2 r k : S256x4096.Idx) := by blk_ext [index_0]
  rw [← flat_apply (arg0 m c), ← V_v0]
  blk_simp [iblk]
  exact congrArg (V m c main_v0) e

/-- The step's second activation block is the second argument. -/
theorem same_1 : Same (iblk m c 1 t₀) (arg1 m c) := by
  intro r k
  have e : ((cfg0.win 1).blk t₀).view.emb (ix2 r k) = (ix2 r k : S256x4096.Idx) := by blk_ext [index_1]
  rw [← flat_apply (arg1 m c), ← V_v1]
  blk_simp [iblk]
  exact congrArg (V m c main_v1) e

/-- Tile `t` of the packed weights. -/
theorem iblk_2 (t : Fin cfg0.N) (q : Fin 1024) (k : Fin 2048) : iblk m c 2 t (ix2 k q) = arg2 m c (ix2 k (tcol t q)) := by
  have e : ((cfg0.win 2).blk t).view.emb (ix2 k q) = (ix2 k (tcol t q) : S2048x14336.Idx) := by
    blk_ext [index_2]
    show t.val * 1024 + q.val = 1024 * t.val + q.val; omega
  blk_simp [iblk]
  exact (congrArg (V m c main_arg2) e).trans (congrFun (V_main_arg2 m c) _)

/-- Tile `t` of the weights' scales. -/
theorem iblk_3 (t : Fin cfg0.N) (q : Fin 1024) (k : Fin 32) : iblk m c 3 t (ix2 k q) = arg3 m c (ix2 k (tcol t q)) := by
  have e : ((cfg0.win 3).blk t).view.emb (ix2 k q) = (ix2 k (tcol t q) : S32x14336.Idx) := by
    blk_ext [index_3]
    show t.val * 1024 + q.val = 1024 * t.val + q.val; omega
  blk_simp [iblk]
  exact (congrArg (V m c main_arg3) e).trans (congrFun (V_main_arg3 m c) _)

/-! ## The arrays that are written -/

/-- The first product, whole. -/
def G4 : Buf (Elt Ideal) ((c : Thread nD τ).loc main_v2_0) :=
  fun i => prodOf (draft (arg0 m c) (i 0)) (arg2 m c) (arg3 m c) (i 1)
/-- The second product, whole. -/
def G5 : Buf (Elt Ideal) ((c : Thread nD τ).loc main_v2_1) :=
  fun i => prodOf (verify (arg1 m c) (i 0)) (arg2 m c) (arg3 m c) (i 1)

/-- The first output array ends as the products of the draft rows. -/
theorem final_4 : (dats (F := Ideal) m 0 c).arrAt 4 cfg0.N = G4 m c := by
  refine (dats m 0 c).arrAt_eq_of_covers 4 _ (by decide +kernel) fun t hf y => ?_
  blk_simp
  rw [after0_4, outAt_4_eq]
  obtain ⟨r, q, rfl⟩ : ∃ (r : Fin 256) (q : Fin 1024), y = ix2 r q := ⟨y 0, y 1, eq_ix2 y⟩
  have e : ((cfg0.win 4).blk t).view.emb (ix2 r q) = (ix2 r (tcol t q) : S256x14336.Idx) := by
    blk_ext [index_4]
    show t.val * 1024 + q.val = 1024 * t.val + q.val; omega
  exact (pay6_apply (same_0 m c) (iblk_2 m c t q) (iblk_3 m c t q) r).trans (congrArg (G4 m c) e).symm

/-- The second output array ends as the products of the verify rows. -/
theorem final_5 : (dats (F := Ideal) m 0 c).arrAt 5 cfg0.N = G5 m c := by
  refine (dats m 0 c).arrAt_eq_of_covers 5 _ (by decide +kernel) fun t hf y => ?_
  blk_simp
  rw [after0_5, outAt_5_eq]
  obtain ⟨r, q, rfl⟩ : ∃ (r : Fin 256) (q : Fin 1024), y = ix2 r q := ⟨y 0, y 1, eq_ix2 y⟩
  have e : ((cfg0.win 5).blk t).view.emb (ix2 r q) = (ix2 r (tcol t q) : S256x14336.Idx) := by
    blk_ext [index_5]
    show t.val * 1024 + q.val = 1024 * t.val + q.val; omega
  exact (pay7_apply (same_1 m c) (iblk_2 m c t q) (iblk_3 m c t q) r).trans (congrArg (G5 m c) e).symm

/-- The last grid point, where the codes and the scales are written back. -/
abbrev tLast : Fin cfg0.N := ⟨13, by rw [show cfg0.N = 14 from N_0]; decide⟩

/-- The third output array ends as the codes that the first step writes. -/
theorem final_6 : (dats (F := Ideal) m 0 c).arrAt 6 cfg0.N = prepCodes m c := by
  refine (dats m 0 c).arrAt_eq_of_after_last 6 tLast (by decide +kernel) _ fun j => ?_
  rw [after0_6]
  rfl

/-- The fourth output array ends as the scales that the first step writes. -/
theorem final_7 : (dats (F := Ideal) m 0 c).arrAt 7 cfg0.N = prepScale m c := by
  refine (dats m 0 c).arrAt_eq_of_after_last 7 tLast (by decide +kernel) _ fun j => ?_
  rw [after0_7]
  rfl

/-! ## The results, with their leading axis -/

/-- What the core's buffers hold when the kernel ends. -/
abbrev atExit : Valuation τ sig (Elt Ideal) :=
  Pipeline.withArrays spec0 c (V0 m c) fun w => (dats (F := Ideal) m 0 c).arrAt w cfg0.N

/-- At the kernel's end each window's array holds what its blocks left. -/
theorem exit_arr (w : Fin 8) : atExit m c (Proc.devRef .tc (Pipeline.arrRef spec0 w)) = (dats (F := Ideal) m 0 c).arrAt w cfg0.N :=
  Pipeline.withArrays_arr spec0 launch0.win.arr_inj c (V0 m c) (fun w => (dats (F := Ideal) m 0 c).arrAt w cfg0.N) w

/-- What the lines after the kernel leave: each result array with a leading axis of one. -/
theorem tail_3 : Pipeline.afterTail₀ cfgs (dats (F := Ideal) m) 0 (V0 m) [hostOps1] c main_v3
    = shapeCast S1x256x14336 (G4 m c) shapeCasts_S256x14336_S1x256x14336 := by
  rw [← final_4, ← exit_arr m c 4]
  unfold Pipeline.afterTail₀
  show StableHlo.after hostOps1 (atExit m c) (Proc.devRef .tc main_v3) = _
  generalize atExit m c = W
  after_results
  rfl

/-- The second result is the second output array. -/
theorem tail_4 : Pipeline.afterTail₀ cfgs (dats (F := Ideal) m) 0 (V0 m) [hostOps1] c main_v4
    = shapeCast S1x256x14336 (G5 m c) shapeCasts_S256x14336_S1x256x14336 := by
  rw [← final_5, ← exit_arr m c 5]
  unfold Pipeline.afterTail₀
  show StableHlo.after hostOps1 (atExit m c) (Proc.devRef .tc main_v4) = _
  generalize atExit m c = W
  after_results
  rfl

/-- The third result is the third output array. -/
theorem tail_5 : Pipeline.afterTail₀ cfgs (dats (F := Ideal) m) 0 (V0 m) [hostOps1] c main_v5
    = shapeCast S1x256x4096 (prepCodes m c) shapeCasts_S256x4096_S1x256x4096 := by
  rw [← final_6, ← exit_arr m c 6]
  unfold Pipeline.afterTail₀
  show StableHlo.after hostOps1 (atExit m c) (Proc.devRef .tc main_v5) = _
  generalize atExit m c = W
  after_results
  rfl

/-- The fourth result is the fourth output array. -/
theorem tail_6 : Pipeline.afterTail₀ cfgs (dats (F := Ideal) m) 0 (V0 m) [hostOps1] c main_v6
    = shapeCast S1x256x32 (prepScale m c) shapeCasts_S256x32_S1x256x32 := by
  rw [← final_7, ← exit_arr m c 7]
  unfold Pipeline.afterTail₀
  show StableHlo.after hostOps1 (atExit m c) (Proc.devRef .tc main_v6) = _
  generalize atExit m c = W
  after_results
  rfl

end Cert.KernelIdeal.Hand

end
-- ==== Proof.Value.lean ====
module

public import proofs.«01_k».proof.Defs
public import proofs.«01_k».proof.Proof.Arrays
public import proofs.«01_k».proof.Proof.Ref

/-! The claim on values: over the extended reals the kernel and the reference compute the same four results. -/

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx
open Idealize.SL Idealize.SL.Sem

section Results
open Cert.ReferenceIdeal.Read

variable (m : (ℓ : Loc nD τ sig) → Buf (Elt Ideal) ℓ) (c : Dev nD)

/-- The first result. -/
theorem result_0 : Pipeline.afterTail₀ cfgs (dats (F := Ideal) m) 0 (V0 m) [hostOps1] c main_v3
    = val_main_v85 (F := Ideal) (arg0 m c) (arg1 m c) (arg2 m c) (arg3 m c) := by
  rw [tail_3]
  funext i
  obtain ⟨a, r, n, rfl⟩ : ∃ (a : Fin 1) (r : Fin 256) (n : Fin 14336), i = ix3 a r n := ⟨i 0, i 1, i 2, eq_ix3 i⟩
  obtain rfl : a = 0 := Subsingleton.elim _ _
  refine (shapeCast_apply _ _ (ix3 0 r n) (ix2 r n) ?_).trans (ref_v85 (arg0 m c) (arg1 m c) (arg2 m c) (arg3 m c) r n).symm
  rewrite [Shape.rowMajor_val_two, Shape.rowMajor_val_three]
  show r.val * 14336 + n.val = (0 * 256 + r.val) * 14336 + n.val
  omega

/-- The second result. -/
theorem result_1 : Pipeline.afterTail₀ cfgs (dats (F := Ideal) m) 0 (V0 m) [hostOps1] c main_v4
    = val_main_v87 (F := Ideal) (arg0 m c) (arg1 m c) (arg2 m c) (arg3 m c) := by
  rw [tail_4]
  funext i
  obtain ⟨a, r, n, rfl⟩ : ∃ (a : Fin 1) (r : Fin 256) (n : Fin 14336), i = ix3 a r n := ⟨i 0, i 1, i 2, eq_ix3 i⟩
  obtain rfl : a = 0 := Subsingleton.elim _ _
  refine (shapeCast_apply _ _ (ix3 0 r n) (ix2 r n) ?_).trans (ref_v87 (arg0 m c) (arg1 m c) (arg2 m c) (arg3 m c) r n).symm
  rewrite [Shape.rowMajor_val_two, Shape.rowMajor_val_three]
  show r.val * 14336 + n.val = (0 * 256 + r.val) * 14336 + n.val
  omega

/-- The third result: the codes. -/
theorem result_2 : Pipeline.afterTail₀ cfgs (dats (F := Ideal) m) 0 (V0 m) [hostOps1] c main_v5 = val_main_v58 (F := Ideal) (arg0 m c) := by
  rw [tail_5]
  funext i
  obtain ⟨a, r, k, rfl⟩ : ∃ (a : Fin 1) (r : Fin 256) (k : Fin 4096), i = ix3 a r k := ⟨i 0, i 1, i 2, eq_ix3 i⟩
  obtain rfl : a = 0 := Subsingleton.elim _ _
  refine (shapeCast_apply _ _ (ix3 0 r k) (ix2 r k) ?_).trans ?_
  · rewrite [Shape.rowMajor_val_two, Shape.rowMajor_val_three]
    show r.val * 4096 + k.val = (0 * 256 + r.val) * 4096 + k.val
    omega
  · rw [← col_grp_lane k, prepCodes_apply (same_0 m c), ref_v58]

/-- The fourth result: the scales. -/
theorem result_3 : Pipeline.afterTail₀ cfgs (dats (F := Ideal) m) 0 (V0 m) [hostOps1] c main_v6 = val_main_v50 (F := Ideal) (arg0 m c) := by
  rw [tail_6]
  funext i
  obtain ⟨a, r, g, rfl⟩ : ∃ (a : Fin 1) (r : Fin 256) (g : Fin 32), i = ix3 a r g := ⟨i 0, i 1, i 2, eq_ix3 i⟩
  obtain rfl : a = 0 := Subsingleton.elim _ _
  refine (shapeCast_apply _ _ (ix3 0 r g) (ix2 r g) ?_).trans ?_
  · rewrite [Shape.rowMajor_val_two, Shape.rowMajor_val_three]
    show r.val * 32 + g.val = (0 * 256 + r.val) * 32 + g.val
    omega
  · rw [prepScale_apply (same_0 m c), ref_v50]

/-- The kernel's run, read at its results and its arguments. -/
theorem run_values (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3) = val_main_v85 (F := Ideal) (arg0 m c) (arg1 m c) (arg2 m c) (arg3 m c)
      ∧ r.2.mem ((c.tc : Thread nD τ).loc main_v4) = val_main_v87 (F := Ideal) (arg0 m c) (arg1 m c) (arg2 m c) (arg3 m c)
      ∧ r.2.mem ((c.tc : Thread nD τ).loc main_v5) = val_main_v58 (F := Ideal) (arg0 m c)
      ∧ r.2.mem ((c.tc : Thread nD τ).loc main_v6) = val_main_v50 (F := Ideal) (arg0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h.1 c).2 main_v3 (Pipeline.mem_restRefs_of main_v3 (by decide) (by decide))).trans (result_0 m c),
        ((h.1 c).2 main_v4 (Pipeline.mem_restRefs_of main_v4 (by decide) (by decide))).trans (result_1 m c),
        ((h.1 c).2 main_v5 (Pipeline.mem_restRefs_of main_v5 (by decide) (by decide))).trans (result_2 m c),
        ((h.1 c).2 main_v6 (Pipeline.mem_restRefs_of main_v6 (by decide) (by decide))).trans (result_3 m c),
        h.2.1 c⟩)
    (θ_run_and (run_main (F := Ideal) m ρ) (frame (F := Ideal) m ρ))

end Results

/-- THE VALUE CLAIM: from memories that agree on the arguments the kernel and the reference end with equal results. -/
theorem algebraic : Cert.algebraic_KernelIdeal_ReferenceIdeal := by
  intro m g m' g' _ hargs
  refine ⟨_, _, _, _, run_values m g, ?_⟩
  refine (θ_run Cert.ReferenceIdeal.defs _ _).mono (fun _ h c => ?_) (Cert.ReferenceIdeal.Value.run (F := Ideal) m' g')
  obtain ⟨e0, e1, e2, e3⟩ := hargs c
  obtain ⟨r0, r1, r2, r3, ha⟩ := h c
  refine ⟨r0.trans ?_, r1.trans ?_, r2.trans ?_, r3.trans ?_, ha⟩
  · rw [Cert.ReferenceIdeal.Read.val_main_v85_eq, e0, e1, e2, e3]
  · rw [Cert.ReferenceIdeal.Read.val_main_v87_eq, e0, e1, e2, e3]
  · rw [Cert.ReferenceIdeal.Read.val_main_v58_eq, e0]
  · rw [Cert.ReferenceIdeal.Read.val_main_v50_eq, e0]

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frame
public import proofs.«01_k».proof.Proof.Ref
public import proofs.«01_k».proof.Proof.Value
public import Idealize.ShloMosaic.Adequacy
public import Idealize.ShloMosaic.Init

@[expose] public section

noncomputable section

namespace Cert.Proof

open Idealize.ShloMosaic Idealize.SL.Sem

/-- The kernel runs, leaves its arguments as they were and every semaphore at zero. The kernel and its idealization are one
    text (no operation is rewritten), and the frame of that text (Proof/Frame.lean) holds of any float values. -/
theorem frame_kernel : Cert.quiescent_Kernel := fun m ρ _ =>
  cast (by sl_kernel_rfl) (Cert.KernelIdeal.Hand.frame (F := Bits) m ρ)

/-- The same of the idealized kernel (Proof/Frame.lean). -/
theorem frame_ideal : Cert.quiescent_KernelIdeal := fun m ρ _ => Cert.KernelIdeal.Hand.frame m ρ

/-- The same of the reference; the counters because it declares no semaphore. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- The idealization rewrites no operation. -/
theorem preserves : Cert.preserves_Kernel_KernelIdeal := trivial

/-- The idealized kernel and the reference end with equal results. -/
theorem algebraic : Cert.algebraic_KernelIdeal_ReferenceIdeal := Cert.KernelIdeal.Hand.algebraic

/-- Everything the certificate claims. -/
theorem claim : Cert.Claim := ⟨Cert.Kernel.Gen.facts, Cert.KernelIdeal.Gen.facts, Cert.ReferenceIdeal.Gen.facts,
  frame_kernel, frame_ideal, frame_reference, preserves, algebraic⟩

end Cert.Proof

end
